-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_untied [hPre_untied : Cert.Pre_untied.Facts] (m : (ℓ : Loc Cert.KernelIdeal.nD Cert.KernelIdeal.τ Cert.KernelIdeal.sig) → Buf (Elt Ideal) ℓ) : Prop :=
  ∀ c : Dev Cert.KernelIdeal.nD,
    (Cert.Pre_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_untied [hPre_untied : Cert.Pre_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_untied [hKernelIdeal : Cert.KernelIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_untied [hReferenceIdeal : Cert.ReferenceIdeal.Facts] [hPre_untied : Cert.Pre_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_untied [hKernelIdeal : Cert.KernelIdeal.Facts] [hReferenceIdeal : Cert.ReferenceIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_untied : Cert.Pre_untied.Facts),
    quiescent_Kernel (hKernel := hKernel)
    ∧ quiescent_KernelIdeal (hKernelIdeal := hKernelIdeal)
    ∧ quiescent_KernelIdeal_pre_untied (hKernelIdeal := hKernelIdeal) (hPre_untied := hPre_untied)
    ∧ quiescent_ReferenceIdeal (hReferenceIdeal := hReferenceIdeal)
    ∧ quiescent_ReferenceIdeal_pre_untied (hReferenceIdeal := hReferenceIdeal) (hPre_untied := hPre_untied)
    ∧ preserves_Kernel_KernelIdeal
    ∧ algebraic_KernelIdeal_ReferenceIdeal_pre_untied (hKernelIdeal := hKernelIdeal) (hReferenceIdeal := hReferenceIdeal) (hPre_untied := hPre_untied)
-- ==== Pre_untied.lean ====
abbrev S4000000x10 : Shape := ⟨2, ![4000000, 10]⟩
abbrev S4000000 : Shape := ⟨1, ![4000000]⟩
abbrev S_ : Shape := ⟨0, ![]⟩
abbrev S4000000x1 : Shape := ⟨2, ![4000000, 1]⟩

class Facts : Prop where
  reducesTo_S4000000x10_S4000000_d1 : S4000000x10.ReducesTo [1] S4000000
  h_S_ : 0 < S_.numel
  bcast_S4000000_S4000000x1_0 : S4000000.BroadcastsInDim S4000000x1 (![0] : Fin 1 → Fin S4000000x1.rank)
  bcast_S4000000x1_S4000000x10_0_1 : S4000000x1.BroadcastsInDim S4000000x10 (![0, 1] : Fin 2 → Fin S4000000x10.rank)
  natLt_1_32 : 1 < 32
  bcast_S_S4000000 : S_.BroadcastsInDim S4000000 (![] : Fin 0 → Fin S4000000.rank)
  reducesTo_S4000000_S_d0 : S4000000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4000000x10 .f32) (main_arg1 : IVec S4000000 32) : IVec S_ 1 :=
  let main_cst : FVec F S_ .f32 := constant S_ .f32 0xFF800000#32
  let main_v0 : FVec F S4000000 .f32 := (fun x v => Host.reduce FloatOps.maximumf x v reducesTo_S4000000x10_S4000000_d1 h_S_) main_arg0 main_cst
  let main_v1 : FVec F S4000000x1 .f32 := broadcastInDim S4000000x1 ![0] bcast_S4000000_S4000000x1_0 main_v0
  let main_v2 : FVec F S4000000x10 .f32 := broadcastInDim S4000000x10 ![0, 1] bcast_S4000000x1_S4000000x10_0_1 main_v1
  let main_v3 : IVec S4000000x10 1 := cmpf .oeq main_arg0 main_v2
  let main_v4 : IVec S4000000x10 32 := (extui 32 · natLt_1_32) main_v3
  let main_c : IVec S_ 32 := constantI S_ 32 0#32
  let main_v5 : IVec S4000000 32 := (fun x v => Host.reduce IntOp.addi x v reducesTo_S4000000x10_S4000000_d1 h_S_) main_v4 main_c
  let main_c_0 : IVec S_ 32 := constantI S_ 32 1#32
  let main_v6 : IVec S4000000 32 := broadcastInDim S4000000 ![] bcast_S_S4000000 main_c_0
  let main_v7 : IVec S4000000 1 := cmpi .eq main_v5 main_v6
  let main_c_1 : IVec S_ 1 := constantI S_ 1 1#1
  let main_v8 : IVec S_ 1 := (fun x v => Host.reduce IntOp.andi x v reducesTo_S4000000_S_d0 h_S_) main_v7 main_c_1
  let main_c_2 : IVec S_ 32 := constantI S_ 32 0#32
  let main_v9 : IVec S4000000 32 := broadcastInDim S4000000 ![] bcast_S_S4000000 main_c_2
  let main_v10 : IVec S4000000 1 := cmpi .sge main_arg1 main_v9
  let main_c_3 : IVec S_ 1 := constantI S_ 1 1#1
  let main_v11 : IVec S_ 1 := (fun x v => Host.reduce IntOp.andi x v reducesTo_S4000000_S_d0 h_S_) main_v10 main_c_3
  let main_v12 : IVec S_ 1 := andi main_v8 main_v11
  let main_c_4 : IVec S_ 32 := constantI S_ 32 10#32
  let main_v13 : IVec S4000000 32 := broadcastInDim S4000000 ![] bcast_S_S4000000 main_c_4
  let main_v14 : IVec S4000000 1 := cmpi .slt main_arg1 main_v13
  let main_c_5 : IVec S_ 1 := constantI S_ 1 1#1
  let main_v15 : IVec S_ 1 := (fun x v => Host.reduce IntOp.andi x v reducesTo_S4000000_S_d0 h_S_) main_v14 main_c_5
  fn_part1 (F := F) main_v12 main_v15
-- ==== Kernel.lean ====
abbrev S4000000x10 : Shape := ⟨2, ![4000000, 10]⟩
abbrev S4000000 : Shape := ⟨1, ![4000000]⟩
abbrev S10x4000000 : Shape := ⟨2, ![10, 4000000]⟩
abbrev S25x1x160000 : Shape := ⟨3, ![25, 1, 160000]⟩
abbrev S10x10 : Shape := ⟨2, ![10, 10]⟩
abbrev S10x160000 : Shape := ⟨2, ![10, 160000]⟩
abbrev S1x1x160000 : Shape := ⟨3, ![1, 1, 160000]⟩
abbrev S160000 : Shape := ⟨1, ![160000]⟩
abbrev S1x160000 : Shape := ⟨2, ![1, 160000]⟩
abbrev S1x1 : Shape := ⟨2, ![1, 1]⟩
abbrev S10 : Shape := ⟨1, ![10]⟩
abbrev S10x1 : Shape := ⟨2, ![10, 1]⟩
abbrev S1x10 : Shape := ⟨2, ![1, 10]⟩
abbrev S1x10x10 : Shape := ⟨3, ![1, 10, 10]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S4000000x10, .f32⟩
  | .hbm, ⟨1, _⟩ => ⟨S4000000, .i32⟩
  | .hbm, ⟨2, _⟩ => ⟨S10x4000000, .f32⟩
  | .hbm, ⟨3, _⟩ => ⟨S25x1x160000, .i32⟩
  | .hbm, ⟨4, _⟩ => ⟨S10x10, .f32⟩
  | .hbm, ⟨5, _⟩ => ⟨S1x1, .f32⟩
  | .hbm, ⟨6, _⟩ => ⟨S_, .f32⟩
  | .local _ .vmem, ⟨0, _⟩ => ⟨S10x160000, .f32⟩
  | .local _ .vmem, ⟨1, _⟩ => ⟨S10x160000, .f32⟩
  | .local _ .vmem, ⟨2, _⟩ => ⟨S1x1x160000, .i32⟩
  | .local _ .vmem, ⟨3, _⟩ => ⟨S1x1x160000, .i32⟩
  | .local _ .vmem, ⟨4, _⟩ => ⟨S10x10, .f32⟩
  | .local _ .vmem, ⟨5, _⟩ => ⟨S10x10, .f32⟩
  | .local _ .vmem, ⟨6, _⟩ => ⟨S10x10, .f32⟩
  | .local _ .vmem, ⟨7, _⟩ => ⟨S1x1, .f32⟩
  | _, _ => ⟨S4000000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v26 : BitVec 1 := Scalar.cmpi .eq arg0 c24_i32
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x160000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := .none

abbrev stage1_0 : Fin 1 → Memref sig .tc .vmem S10x10 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S4000000x10 : Shape := ⟨2, ![4000000, 10]⟩
abbrev S4000000 : Shape := ⟨1, ![4000000]⟩
abbrev S_ : Shape := ⟨0, ![]⟩
abbrev S100 : Shape := ⟨1, ![100]⟩
abbrev S4000000x1 : Shape := ⟨2, ![4000000, 1]⟩
abbrev S10x10 : Shape := ⟨2, ![10, 10]⟩
abbrev S10 : Shape := ⟨1, ![10]⟩
abbrev S10x1 : Shape := ⟨2, ![10, 1]⟩
abbrev S1x10 : Shape := ⟨2, ![1, 10]⟩

abbrev nBuf : Space → Nat
  | .hbm => 81
  | .vmem => 0
  | .smem => 0
  | _ => 0

abbrev bufTy : (tb : Table) → Fin (tcTables nBuf tb) → BufTy
  | .hbm, ⟨0, _⟩ => ⟨S4000000x10, .f32⟩
  | .hbm, ⟨1, _⟩ => ⟨S4000000, .i32⟩
  | .hbm, ⟨2, _⟩ => ⟨S4000000x10, .i32⟩
  | .hbm, ⟨3, _⟩ => ⟨S_, .f32⟩
  | .hbm, ⟨4, _⟩ => ⟨S_, .i32⟩
  | .hbm, ⟨5, _⟩ => ⟨S4000000, .f32⟩
  | .hbm, ⟨6, _⟩ => ⟨S4000000, .i32⟩
  | .hbm, ⟨7, _⟩ => ⟨S_, .i32⟩
  | .hbm, ⟨8, _⟩ => ⟨S4000000, .i32⟩
  | .hbm, ⟨9, _⟩ => ⟨S4000000, .i32⟩
  | .hbm, ⟨10, _⟩ => ⟨S4000000, .i32⟩
  | .hbm, ⟨11, _⟩ => ⟨S_, .i32⟩
  | .hbm, ⟨12, _⟩ => ⟨S100, .i32⟩
  | .hbm, ⟨13, _⟩ => ⟨S_, .i32⟩
  | .hbm, ⟨14, _⟩ => ⟨S_, .i32⟩
  | .hbm, ⟨15, _⟩ => ⟨S4000000, .i32⟩
  | .hbm, ⟨16, _⟩ => ⟨S4000000, .i32⟩
  | .hbm, ⟨17, _⟩ => ⟨S_, .i32⟩
  | .hbm, ⟨18, _⟩ => ⟨S4000000, .i32⟩
  | .hbm, ⟨19, _⟩ => ⟨S4000000, .i1⟩
  | .hbm, ⟨20, _⟩ => ⟨S_, .i32⟩
  | .hbm, ⟨21, _⟩ => ⟨S4000000, .i32⟩
  | .hbm, ⟨22, _⟩ => ⟨S4000000, .i32⟩
  | .hbm, ⟨23, _⟩ => ⟨S4000000, .i32⟩
  | .hbm, ⟨24, _⟩ => ⟨S4000000x1, .i32⟩
  | .hbm, ⟨25, _⟩ => ⟨S_, .i32⟩
  | .hbm, ⟨26, _⟩ => ⟨S4000000, .i32⟩
  | .hbm, ⟨27, _⟩ => ⟨S100, .i32⟩
  | .hbm, ⟨28, _⟩ => ⟨S10x10, .i32⟩
  | .hbm, ⟨29, _⟩ => ⟨S10x10, .f32⟩
  | .hbm, ⟨30, _⟩ => ⟨S_, .f32⟩
  | .hbm, ⟨31, _⟩ => ⟨S10x10, .f32⟩
  | .hbm, ⟨32, _⟩ => ⟨S10x10, .f32⟩
  | .hbm, ⟨33, _⟩ => ⟨S_, .f32⟩
  | .hbm, ⟨34, _⟩ => ⟨S10, .f32⟩
  | .hbm, ⟨35, _⟩ => ⟨S_, .f32⟩
  | .hbm, ⟨36, _⟩ => ⟨S10, .f32⟩
  | .hbm, ⟨37, _⟩ => ⟨S10x1, .f32⟩
  | .hbm, ⟨38, _⟩ => ⟨S1x10, .f32⟩
  | .hbm, ⟨39, _⟩ => ⟨S10x10, .f32⟩
  | .hbm, ⟨40, _⟩ => ⟨S10x10, .f32⟩
  | .hbm, ⟨41, _⟩ => ⟨S10x10, .f32⟩
  | .hbm, ⟨42, _⟩ => ⟨S10, .f32⟩
  | .hbm, ⟨43, _⟩ => ⟨S10x1, .f32⟩
  | .hbm, ⟨44, _⟩ => ⟨S1x10, .f32⟩
  | .hbm, ⟨45, _⟩ => ⟨S10x10, .f32⟩
  | .hbm, ⟨46, _⟩ => ⟨S10x10, .f32⟩
  | .hbm, ⟨47, _⟩ => ⟨S10x10, .f32⟩
  | .hbm, ⟨48, _⟩ => ⟨S10x10, .f32⟩
  | .hbm, ⟨49, _⟩ => ⟨S_, .f32⟩
  | .hbm, ⟨50, _⟩ => ⟨S10x10, .f32⟩
  | .hbm, ⟨51, _⟩ => ⟨S10x10, .f32⟩
  | .hbm, ⟨52, _⟩ => ⟨S_, .f32⟩
  | .hbm, ⟨53, _⟩ => ⟨S10x10, .f32⟩
  | .hbm, ⟨54, _⟩ => ⟨S10x10, .f32⟩
  | .hbm, ⟨55, _⟩ => ⟨S10x10, .f32⟩
  | .hbm, ⟨56, _⟩ => ⟨S_, .f32⟩
  | .hbm, ⟨57, _⟩ => ⟨S_, .f32⟩
  | .hbm, ⟨58, _⟩ => ⟨S10x10, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S4000000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_cst_11 : Ref sig .tc := ⟨.hbm, 61, rfl⟩
abbrev main_cst_12 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v40 : Ref sig .tc := ⟨.hbm, 66, rfl⟩
abbrev main_v41 : Ref sig .tc := ⟨.hbm, 67, rfl⟩
abbrev main_cst_13 : Ref sig .tc := ⟨.hbm, 68, rfl⟩
abbrev main_v42 : Ref sig .tc := ⟨.hbm, 69, rfl⟩
abbrev main_cst_14 : Ref sig .tc := ⟨.hbm, 70, rfl⟩
abbrev main_v43 : Ref sig .tc := ⟨.hbm, 71, rfl⟩
abbrev main_v44 : Ref sig .tc := ⟨.hbm, 72, rfl⟩
abbrev main_cst_15 : Ref sig .tc := ⟨.hbm, 73, rfl⟩
abbrev main_cst_16 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v45 : Ref sig .tc := ⟨.hbm, 78, rfl⟩
abbrev main_cst_17 : Ref sig .tc := ⟨.hbm, 79, rfl⟩
abbrev main_v46 : Ref sig .tc := ⟨.hbm, 80, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

/-! What one call of each of the kernel's two bodies does to the buffers it is given, at any float values. -/

@[expose] public section

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The test of the counting body's first branch: the grid point is the first. -/
abbrev isFirst (i : grid0.Coords) : Prop :=
  Scalar.cmpi .ne (Scalar.extui (Scalar.cmpi .eq (BitVec.ofNat 32 (i 0).val) 0#32)) 0#32 = 1#1

/-- The test of the counting body's second branch: the grid point is the last. -/
abbrev isLast (i : grid0.Coords) : Prop := k0_cond2 i = 1#1

/-- The first branch is taken at the first point only. -/
theorem isFirst_iff (t : Fin cfg0.N) : isFirst (grid0.coords t) ↔ t.val = 0 := by
  have ht : t.val < 25 := Nat.lt_of_lt_of_eq t.isLt N_0
  have e0 : (grid0.coords t 0).val = t.val / 1 % 25 := Pipeline.Grid.coords_val t 0 (by decide) rfl
  have h : isFirst (grid0.coords t) ↔ t.val % 25 = 0 := by
    simp only [isFirst, e0]
    word_cmp
  rw [h, Nat.mod_eq_of_lt ht]

/-- The second branch is taken at the last point only. -/
theorem isLast_iff (t : Fin cfg0.N) : isLast (grid0.coords t) ↔ t.val = 24 := by
  have ht : t.val < 25 := Nat.lt_of_lt_of_eq t.isLt N_0
  have e0 : (grid0.coords t 0).val = t.val / 1 % 25 := Pipeline.Grid.coords_val t 0 (by decide) rfl
  have h : isLast (grid0.coords t) ↔ t.val % 25 = 24 := by
    simp only [isLast, k0_cond2, e0]
    word_cmp
  rw [h, Nat.mod_eq_of_lt ht]

open Classical in
/-- What the scratch holds after the counting body: the block's counts added to zero at the first point, to what the
    scratch held at any other. -/
def step (i : grid0.Coords) (x : Vec F S10x160000 .f32) (y : Vec F S1x1x160000 .i32) (s : Vec F S10x10 .f32) : Vec F S10x10 .f32 :=
  k0_pay2 x y (if isFirst i then k0_pay1 else s)

open Classical in
/-- What the counting body's output buffer holds after it: the scratch at the last point, what it held at any other. -/
def kept (i : grid0.Coords) (new old : Vec F S10x10 .f32) : Vec F S10x10 .f32 :=
  if isLast i then new else old

/-- The two literal zero offsets are zero everywhere. -/
theorem off2 : (![0, 0] : Fin 2 → Nat) = fun _ => 0 := by decide

/-- The three literal zero offsets are zero everywhere. -/
theorem off3 : (![0, 0, 0] : Fin 3 → Nat) = fun _ => 0 := by decide

/-- After stores of which the last covers the whole 10 by 10 buffer, it reads as that store's payload. -/
theorem read_last_store {κ : Kind} {sp : Space} (v : View sig κ sp S10x10 .f32) (f : v.ty.Contents (Elt F))
    (w : Vec F S10x10 .f32) (L : List (View.Piece (Elt F) S10x10 .f32)) :
    v.read (Elt F) (v.writes (Elt F) f (⟨Rect.unit (s := S10x10) ![0, 0] S10x10.size inb_S10x10_S10x10_0_0, w⟩ :: L)) = w :=
  (View.read_writes_eq_canon _ _ _ fun y => ⟨_, List.mem_cons_self, View.mem_set_unit_zero off2 inb_S10x10_S10x10_0_0 y⟩).trans
    (View.canon_cons_unit_zero off2 inb_S10x10_S10x10_0_0 w L)

/-- A load of a whole buffer after stores of which the last covers it is that store's payload. -/
theorem load_last_whole {κ : Kind} {sp : Space} {S : Shape} {η : EltTy} (v : View sig κ sp S η) {off : Fin S.rank → Nat} (h : off = fun _ => 0)
    (inb : ∀ j, off j + S.size j ≤ S.size j) (w : Vec F S η) (L : List (View.Piece (Elt F) S η)) :
    v.readCov ((⟨Rect.unit off S.size inb, w⟩ : View.Piece (Elt F) S η) :: L) (Rect.unit off S.size inb).toLoadRect = w := by
  rw [View.readCov_eq_canon_ld v _ _ fun y => ⟨_, List.mem_cons_self, View.mem_set_unit_zero h inb y⟩,
    View.ld_unit_zero h, View.canon_cons_unit_zero h]

/-- The same at the 10 by 10 buffer's literal rectangle. -/
theorem load_last_store {κ : Kind} {sp : Space} (v : View sig κ sp S10x10 .f32)
    (w : Vec F S10x10 .f32) (L : List (View.Piece (Elt F) S10x10 .f32)) :
    v.readCov ((⟨Rect.unit (s := S10x10) ![0, 0] S10x10.size inb_S10x10_S10x10_0_0, w⟩ : View.Piece (Elt F) S10x10 .f32) :: L)
      (Rect.unit (s := S10x10) ![0, 0] S10x10.size inb_S10x10_S10x10_0_0).toLoadRect = w :=
  load_last_whole v off2 _ w L

/-- A load of a whole buffer that holds `x` is `x`. -/
theorem load_block {κ : Kind} {sp : Space} {S : Shape} {η : EltTy} {m : Memref sig κ sp S η} {off : Fin S.rank → Nat}
    (inb : ∀ j, off j + S.size j ≤ S.size j) (h : off = fun _ => 0) (hm : m.IsWhole) (x : Vec F S η) :
    m.view.readAt (Elt F) (Rect.unit off S.size inb).toLoadRect (hm.unread x) = x := by
  rw [View.readAt_eq_ld, hm.read_unread, View.ld_unit_zero h]

/-- The stored value is `step` at the first point, once the three loads are known. -/
theorem step_first {i : grid0.Coords} (h : isFirst i) {a x : Vec F S10x160000 .f32} {b y : Vec F S1x1x160000 .i32} {d s : Vec F S10x10 .f32}
    (ha : a = x) (hb : b = y) (hd : d = k0_pay1) : k0_pay2 a b d = step i x y s := by
  rw [ha, hb, hd, step, if_pos h]

/-- The stored value is `step` at a later point, once the three loads are known. -/
theorem step_later {i : grid0.Coords} (h : ¬ isFirst i) {a x : Vec F S10x160000 .f32} {b y : Vec F S1x1x160000 .i32} {d s : Vec F S10x10 .f32}
    (ha : a = x) (hb : b = y) (hd : d = s) : k0_pay2 a b d = step i x y s := by
  rw [ha, hb, hd, step, if_neg h]

set_option maxHeartbeats 1000000 in
/-- The counting body: on the two input blocks `x` and `y`, the output buffer at `o` and the scratch at `s`, it leaves
    the inputs as they were, the scratch at `step` and the output buffer at `kept`. -/
theorem cm_body (c : Dev nD) (i : grid0.Coords) (arg1 : Memref sig .tc .vmem S10x160000 .f32) (harg1 : arg1.IsWhole)
    (arg2 : Memref sig .tc .vmem S1x1x160000 .i32) (harg2 : arg2.IsWhole) (arg3 : Memref sig .tc .vmem S10x10 .f32) (harg3 : arg3.IsWhole)
    (arg4 : Memref sig .tc .vmem S10x10 .f32) (harg4 : arg4.IsWhole)
    (x : Vec F S10x160000 .f32) (y : Vec F S1x1x160000 .i32) (o s : Vec F S10x10 .f32) (E : Set ℕ) (K : PUnit → sProp 𝕄) :
    iprop(owns (c : Thread nD τ) arg1 fullShare x ∗ owns (c : Thread nD τ) arg2 fullShare y ∗ owns (c : Thread nD τ) arg3 fullShare o ∗ owns (c : Thread nD τ) arg4 fullShare s
        ∗ (iprop(owns (c : Thread nD τ) arg1 fullShare x ∗ owns (c : Thread nD τ) arg2 fullShare y
            ∗ owns (c : Thread nD τ) arg3 fullShare (kept i (step i x y s) o) ∗ owns (c : Thread nD τ) arg4 fullShare (step i x y s)) -∗ K ⟨⟩))
      ⊢ wp frame (wpE (defs₀ (F := F)) Variants.none c none) E (cc0__cm_body i arg1 harg1 arg2 harg2 arg3 harg3 arg4 harg4) K := by
  simp only [cc0__cm_body_eq_skeleton]; unfold cc0__cm_body_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  by_cases h0 : isFirst i <;> by_cases h1 : isLast i
  all_goals
    sl_exec (disch := first | sl_exact h0 | sl_exact h1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr
      swap; · iexact H3
      ipureintro
      first
        | exact hf3.trans (if_neg h1).symm
        | (refine (read_last_store _ _ _ _).trans (Eq.trans ?_ (if_pos h1).symm)
           refine (load_last_store _ _ _).trans ?_
           first
            | exact step_first h0 (load_block _ off2 harg1 _) (load_block _ off3 harg2 _) (load_last_store _ _ _)
            | exact step_later h0 (load_block _ off2 harg1 _) (load_block _ off3 harg2 _) (load_block _ off2 harg4 _))
    · iexists _; isplitr
      swap; · iexact H4
      ipureintro
      refine (read_last_store _ _ _ _).trans ?_
      first
        | exact step_first h0 (load_block _ off2 harg1 _) (load_block _ off3 harg2 _) (load_last_store _ _ _)
        | exact step_later h0 (load_block _ off2 harg1 _) (load_block _ off3 harg2 _) (load_block _ off2 harg4 _)

/-- The score body: on the count table `x` it leaves the table as it was and its output buffer at the score of it. -/
theorem qwk_body (c : Dev nD) (arg0 : Memref sig .tc .vmem S10x10 .f32) (harg0 : arg0.IsWhole)
    (arg1 : Memref sig .tc .vmem S1x1 .f32) (harg1 : arg1.IsWhole)
    (x : Vec F S10x10 .f32) (o : Vec F S1x1 .f32) (E : Set ℕ) (K : PUnit → sProp 𝕄) :
    iprop(owns (c : Thread nD τ) arg0 fullShare x ∗ owns (c : Thread nD τ) arg1 fullShare o
        ∗ (iprop(owns (c : Thread nD τ) arg0 fullShare x ∗ owns (c : Thread nD τ) arg1 fullShare (k1_pay1 x)) -∗ K ⟨⟩))
      ⊢ wp frame (wpE (defs₀ (F := F)) Variants.none c none) E (cc1__qwk_body arg0 harg0 arg1 harg1) K := by
  simp only [cc1__qwk_body_eq_skeleton]; unfold cc1__qwk_body_skel
  unfold owns
  iintro ⟨⟨%f0, %hf0, H0⟩, ⟨%f1, %hf1, H1⟩, Hk⟩
  obtain rfl := harg0.eq_unread hf0; obtain rfl := harg1.eq_unread hf1
  sl_exec
  sl_step
  iapply Hk
  isplitl [H0]
  · iexists _; isplitr; · ipureintro; exact harg0.read_unread _
    iexact H0
  iexists _; isplitr
  swap; · iexact H1
  ipureintro
  refine (View.read_writes_eq_canon _ _ _ fun y => ⟨_, List.mem_cons_self, View.mem_set_unit_zero off2 inb_S1x1_S1x1_0_0 y⟩).trans ?_
  refine (View.canon_unit_zero off2 _ _).trans ?_
  exact congrArg k1_pay1 (load_block _ off2 harg0 _)

end Cert.KernelIdeal.Hist

end
-- ==== Proof.Regions.lean ====
module

public import proofs.«01_k».proof.Proof.Body
public import Idealize.ShloMosaic.Lib.Pipeline.RegionsLoop
public import Idealize.ShloMosaic.Lib.Pipeline.FrameSuffix

/-! The two kernel regions' proof data, at any contents `V` of the buffers when the region is entered: what every
    buffer of a region holds at every grid point, and what the region leaves in its output array. -/

@[expose] public section

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The counting region -/

/-- The block of the counting region's window `w` at point `t`, read off the window's array. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The counts after point `n`: the first block's counts over zero, then each block's over the counts before it. -/
def counts (c : Dev nD) : (n : ℕ) → n < cfg0.N → Vec F S10x10 .f32
  | 0, h => k0_pay2 (block0 V c 0 ⟨0, h⟩) (block0 V c 1 ⟨0, h⟩) k0_pay1
  | n + 1, h => k0_pay2 (block0 V c 0 ⟨n + 1, h⟩) (block0 V c 1 ⟨n + 1, h⟩) (counts c n (Nat.lt_of_succ_lt h))

/-- One body call takes the counts after the point before to the counts after this one. -/
theorem step_counts (c : Dev nD) (t : Fin cfg0.N) (s : Vec F S10x10 .f32)
    (hs : ∀ k (h : k < cfg0.N), t.val = k + 1 → s = counts V c k h) :
    step (grid0.coords t) (block0 V c 0 t) (block0 V c 1 t) s = counts V c t.val t.isLt := by
  obtain ⟨n, hn⟩ := t
  cases n with
  | zero => rw [step, if_pos ((isFirst_iff _).mpr rfl)]; rfl
  | succ k =>
    rw [step, if_neg (fun h => absurd ((isFirst_iff _).mp h) (Nat.succ_ne_zero k)), hs k (Nat.lt_of_succ_lt hn) rfl]; rfl

/-- The scratch buffer, as the body is given it. -/
abbrev scratch : Memref sig .tc .vmem S10x10 .f32 := Memref.whole cc0_scratch0

/-- What is held between points beside the scratch: the score region's two staging buffers at anything and the generator
    register at some state. -/
abbrev beside (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f) ∗ (∃ r, prngReg c r))

/-- The invariant before point `n`: the scratch holds the counts after the point before, anything before the first. -/
def inv (c : Dev nD) (n : ℕ) : sProp 𝕄 :=
  iprop((∃ s, ⌜∀ k (h : k < cfg0.N), n = k + 1 → s = counts V c k h⌝ ∗ owns (c : Thread nD τ) scratch fullShare s) ∗ beside c)

/-- What a region is entered with, the scratch named. -/
theorem entry_eq (c : Dev nD) :
    (Pipeline.ΦA spec0 c : sProp 𝕄)
      = iprop(iprop((∃ d, owns (c : Thread nD τ) scratch fullShare d)
          ∗ (∃ f : Buf (Elt F) ((c : Thread nD τ).loc cc1_stg0_0), ((c : Thread nD τ).loc cc1_stg0_0) ↦{fullShare} f)
          ∗ (∃ f : Buf (Elt F) ((c : Thread nD τ).loc cc1_stg1_0), ((c : Thread nD τ).loc cc1_stg1_0) ↦{fullShare} f)) ∗ (∃ r, prngReg c r)) := by
  unfold Pipeline.ΦA; rw [scopedRest0_eq]; simp only [scratch, owns_whole]; rfl

/-- Entering the region gives the invariant before the first point. -/
theorem inv_of_entry (c : Dev nD) : (Pipeline.ΦA spec0 c : sProp 𝕄) ⊢ inv V c 0 := by
  rw [entry_eq]; unfold inv beside
  iintro ⟨⟨⟨%d, Hs⟩, Ha, Hb⟩, Hg⟩
  isplitl [Hs]
  · iexists d; isplitr
    · ipureintro; exact fun k _ h => absurd h.symm (Nat.succ_ne_zero k)
    iexact Hs
  isplitl [Ha]; · iexact Ha
  isplitl [Hb]; · iexact Hb
  iexact Hg

/-- The invariant gives back what the region was entered with. -/
theorem entry_of_inv (c : Dev nD) (n : ℕ) : inv V c n ⊢ (Pipeline.ΦA spec0 c : sProp 𝕄) := by
  rw [entry_eq]; unfold inv beside
  iintro ⟨⟨%d, -, Hs⟩, Ha, Hb, Hg⟩
  isplitr [Hg]
  · isplitl [Hs]; · iexists d; iexact Hs
    isplitl [Ha]; · iexact Ha
    iexact Hb
  iexact Hg

/-- The counting region's proof data: each input's buffer at its block, the output's at the counts. -/
def dat0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => counts V c t.val t.isLt
  Φ t := inv V c t.val
  q _ := fullShare
  owed _ := 0

/-- The proof data's arrays are the entry contents. -/
theorem arrays0 (c : Dev nD) (w : Fin cfg0.W) : (dat0 V c).A w = V c (Pipeline.arrRef spec0 w) := by
  dsimp only [dat0]

/-- After the body the first input's buffer holds its block. -/
theorem after0_0 (c : Dev nD) (t : Fin cfg0.N) : (dat0 V c).after 0 t = block0 V c 0 t := by dsimp only [dat0]
/-- After the body the second input's buffer holds its block. -/
theorem after0_1 (c : Dev nD) (t : Fin cfg0.N) : (dat0 V c).after 1 t = block0 V c 1 t := by dsimp only [dat0]
/-- After the body the output's buffer is to hold the counts. -/
theorem after0_2 (c : Dev nD) (t : Fin cfg0.N) : (dat0 V c).after 2 t = counts V c t.val t.isLt := by dsimp only [dat0]

/-- Before the body the first input's buffer holds its block. -/
theorem before0_0 (c : Dev nD) (t : Fin cfg0.N) (d) : (dat0 V c).before 0 t d = block0 V c 0 t :=
  ((dat0 V c).before_in_eq_fetched 0 rfl (fun _ => rfl) (fun _ _ _ => rfl)
    (fun t => by rw [after0_0]; unfold Dat.blockOf block0; rw [arrays0]) t d).trans
    (by unfold Dat.fetched Dat.blockOf block0; rw [arrays0]; rfl)

/-- Before the body the second input's buffer holds its block. -/
theorem before0_1 (c : Dev nD) (t : Fin cfg0.N) (d) : (dat0 V c).before 1 t d = block0 V c 1 t :=
  ((dat0 V c).before_in_eq_fetched 1 rfl (fun _ => rfl) (fun _ _ _ => rfl)
    (fun t => by rw [after0_1]; unfold Dat.blockOf block0; rw [arrays0]) t d).trans
    (by unfold Dat.fetched Dat.blockOf block0; rw [arrays0]; rfl)

/-- The output window is idle at every point but the last. -/
theorem idle0 : ∀ t : Fin cfg0.N, ¬ isLast (grid0.coords t) → cfg0.idle 2 (grid0.coords t) = true := by decide +kernel
/-- The output window is not written back at a point but the last. -/
theorem unflushed0 : ∀ t : Fin cfg0.N, ¬ isLast (grid0.coords t) → (cfg0.win 2).flush t = false := by decide +kernel
/-- The output window is live at the last point. -/
theorem live0 : ∀ t : Fin cfg0.N, isLast (grid0.coords t) → cfg0.idle 2 (grid0.coords t) = false := by decide +kernel

/-- What the counting body is called with at point `t`, the windows one by one. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the counting body returns at point `t`. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

/-- What the body leaves in the output's buffer is what the pipeline expects there: the counts at the last point, what was
    there at any other. -/
theorem leaves_output (c : Dev nD) (t : Fin cfg0.N) (d) :
    owns (c : Thread nD τ) (st0_2 t) fullShare (kept (grid0.coords t) (counts V c t.val t.isLt) ((dat0 V c).before 2 t d))
      ⊢ (dat0 V c).leavesExact 2 t := by
  by_cases h : isLast (grid0.coords t)
  · rw [show (dat0 V c).leavesExact 2 t = owns (c : Thread nD τ) (st0_2 t) fullShare ((dat0 V c).after 2 t) from by
      unfold Dat.leavesExact; rw [live0 t h], after0_2, kept, if_pos h]
  · rw [Dat.leavesExact_idle (dat0 V c) 2 t (idle0 t h) (unflushed0 t h), kept, if_neg h]
    iintro H; iexists d; iexact H

/-- The counting body at any point keeps the region's proof data. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).owesAt () t.succ = (dat0 V c).owesAt () t.castSucc from rfl,
    show (dat0 V c).Φ t.castSucc = inv V c t.val from rfl, show (dat0 V c).Φ t.succ = inv V c (t.val + 1) from rfl,
    show (dat0 V c).leavesExact 0 t = owns (c : Thread nD τ) (st0_0 t) fullShare ((dat0 V c).after 0 t) from rfl,
    show (dat0 V c).leavesExact 1 t = owns (c : Thread nD τ) (st0_1 t) fullShare ((dat0 V c).after 1 t) from rfl, after0_0, after0_1]
  unfold inv
  iintro ⟨⟨⟨%s, %hs, Hs⟩, Hb⟩, Ho, ⟨%d0, H0⟩, ⟨%d1, H1⟩, ⟨%d2, H2⟩⟩
  iapply (cm_body c (grid0.coords t) _ _ _ _ _ _ _ _ (block0 V c 0 t) (block0 V c 1 t) ((dat0 V c).before 2 t d2) s Set.univ _)
  isplitl [H0]; · iexact H0
  isplitl [H1]; · iexact H1
  isplitl [H2]; · iexact H2
  isplitl [Hs]; · iexact Hs
  rw [step_counts V c t s hs]
  iintro ⟨H0, H1, H2, Hs⟩
  isplitl [Hs Hb]
  · isplitl [Hs]
    · iexists _; isplitr
      swap; · iexact Hs
      ipureintro; intro k hk e; obtain rfl : t.val = k := Nat.succ.inj e; rfl
    iexact Hb
  isplitl [Ho]; · iexact Ho
  isplitl [H0]; · iexact H0
  isplitl [H1]; · iexact H1
  iapply (leaves_output V c t d2); iexact H2

/-- The body table's row for the counting region. -/
theorem row0 (t : Fin cfg0.N) : defs₀ (F := F) .tc cfg0.body (cfg0.bodyArgs t (cfg0.slots t)) = bodyAt0 t := by
  unfold defs₀; rw [Defs.onTc_tc]

/-- The counting region's body obligation. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

/-- The last point of the counting grid. -/
abbrev last0 : Fin cfg0.N := ⟨24, by rw [show cfg0.N = 25 from N_0]; decide⟩

/-- Every block of the counting region's output is its whole array. -/
theorem read_output (t : Fin cfg0.N) (x : Vec F S10x10 .f32) : ((cfg0.win 2).blk t).view.read (Elt F) x = x := by
  have e : ∀ (t : Fin grid0.N) (a : Fin 2), win0_2.index t a = 0 := by decide +kernel
  funext y
  show x (((cfg0.win 2).blk t).view.emb y) = x y
  congr 1
  funext a
  refine Fin.ext ?_
  show win0_2.index t a * S10x10.size a + 1 * (y a).val = (y a).val
  rw [e t a]; omega

/-- The counting region leaves the counts of all blocks in its output array. -/
theorem final0 (c : Dev nD) : (dat0 V c).arrAt 2 cfg0.N = counts V c 24 last0.isLt :=
  (dat0 V c).arrAt_eq_of_cover 2 _ (fun t hf => by
      have ht : t.val = 24 := by
        have h1 := (flush0_2 t).mp hf
        have h2 : t.val < 25 := lt_of_lt_of_eq t.isLt N_0
        omega
      obtain rfl : t = last0 := Fin.ext ht
      refine Eq.trans ?_ (read_output last0 _).symm
      show (cfg0.win 2).cut (grid0.coords last0) ((dat0 V c).after 2 last0) = _
      rw [after0_2]; rfl)
    (fun i => ⟨last0, (flush0_2 last0).mpr rfl, by
      show i ∈ ((View.whole main_v2).slice (win0_2.rect last0)).set
      rw [View.set_slice_whole, Rect.mem_set_unit]
      have e : ∀ a : Fin 2, win0_2.index last0 a = 0 := by decide +kernel
      intro a
      show win0_2.index last0 a * S10x10.size a ≤ (i a).val ∧ (i a).val < win0_2.index last0 a * S10x10.size a + S10x10.size a
      rw [e a, Nat.zero_mul, Nat.zero_add]
      exact ⟨Nat.zero_le _, (i a).isLt⟩⟩)

/-! ## The score region -/

/-- The block of the score region's window `w`, read off the window's array. -/
def block1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The score region's proof data: the input's buffer at the table, the output's at its score. -/
def dat1 (c : Dev nD) : Dat τ (Elt F) Unit ℕ (UR sig nD τ) ℕ cfg1 c where
  A w := V c (Pipeline.arrRef spec1 w)
  after w t := match w with
    | ⟨0, _⟩ => block1 V c 0 t
    | ⟨1, _⟩ => k1_pay1 (block1 V c 0 t)
  Φ _ := Pipeline.ΦA spec1 c
  q _ := fullShare
  owed _ := 0

/-- The proof data's arrays are the entry contents. -/
theorem arrays1 (c : Dev nD) (w : Fin cfg1.W) : (dat1 V c).A w = V c (Pipeline.arrRef spec1 w) := by
  dsimp only [dat1]
/-- After the body the input's buffer holds the table. -/
theorem after1_0 (c : Dev nD) (t : Fin cfg1.N) : (dat1 V c).after 0 t = block1 V c 0 t := by dsimp only [dat1]
/-- After the body the output's buffer holds the score. -/
theorem after1_1 (c : Dev nD) (t : Fin cfg1.N) : (dat1 V c).after 1 t = k1_pay1 (block1 V c 0 t) := by dsimp only [dat1]

/-- Before the body the input's buffer holds the table. -/
theorem before1_0 (c : Dev nD) (t : Fin cfg1.N) (d) : (dat1 V c).before 0 t d = block1 V c 0 t :=
  ((dat1 V c).before_in_eq_fetched 0 rfl (fun _ => rfl) (fun _ _ _ => rfl)
    (fun t => by rw [after1_0]; unfold Dat.blockOf block1; rw [arrays1]) t d).trans
    (by unfold Dat.fetched Dat.blockOf block1; rw [arrays1]; rfl)

/-- What the score body is called with. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- What the score body returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The score body keeps the region's proof data. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0]
  rw [show (dat1 V c).owesAt () t.succ = (dat1 V c).owesAt () t.castSucc from rfl,
    show (dat1 V c).Φ t.succ = (dat1 V c).Φ t.castSucc from rfl, after1_0, after1_1]
  iintro ⟨HΦ, Ho, ⟨%d0, H0⟩, ⟨%d1, H1⟩⟩
  iapply (qwk_body c _ _ _ _ (block1 V c 0 t) _ Set.univ _)
  isplitl [H0]; · iexact H0
  isplitl [H1]; · iexact H1
  iintro ⟨H0, H1⟩
  isplitl [HΦ]; · iexact HΦ
  isplitl [Ho]; · iexact Ho
  isplitl [H0]; · iexact H0
  iexact H1

/-- The body table's row for the score region. -/
theorem row1 (t : Fin cfg1.N) : defs₀ (F := F) .tc cfg1.body (cfg1.bodyArgs t (cfg1.slots t)) = bodyAt1 t := by
  unfold defs₀; rw [Defs.onTc_tc]

/-- The score region's body obligation. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

/-- The score region leaves the score of the table it finds in its output array. -/
theorem final1 (c : Dev nD) : (dat1 V c).arrAt 1 cfg1.N = k1_pay1 (V c main_v2) :=
  (dat1 V c).arrAt_eq_of_cover 1 _ (fun t _ => by
      obtain rfl : t = t1_0 := fin_N1 t
      have e0 : ∀ a : Fin 2, win1_0.index t1_0 a = 0 := by decide +kernel
      have e1 : ∀ a : Fin 2, win1_1.index t1_0 a = 0 := by decide +kernel
      have hb : block1 V c 0 t1_0 = V c main_v2 := by
        funext y
        show V c main_v2 (((cfg1.win 0).blk t1_0).view.emb y) = V c main_v2 y
        congr 1
        funext a
        refine Fin.ext ?_
        show win1_0.index t1_0 a * S10x10.size a + 1 * (y a).val = (y a).val
        rw [e0 a]; omega
      show (cfg1.win 1).cut (grid1.coords t1_0) ((dat1 V c).after 1 t1_0) = _
      rw [after1_1, hb]
      funext y
      show k1_pay1 (V c main_v2) y = k1_pay1 (V c main_v2) (((cfg1.win 1).blk t1_0).view.emb y)
      congr 1
      funext a
      refine Fin.ext ?_
      show (y a).val = win1_1.index t1_0 a * S1x1.size a + 1 * (y a).val
      rw [e1 a]; omega)
    (fun i => ⟨t1_0, flush1_1 t1_0, by
      show i ∈ ((View.whole main_v3).slice (win1_1.rect t1_0)).set
      rw [View.set_slice_whole, Rect.mem_set_unit]
      have e : ∀ a : Fin 2, win1_1.index t1_0 a = 0 := by decide +kernel
      intro a
      show win1_1.index t1_0 a * S1x1.size a ≤ (i a).val ∧ (i a).val < win1_1.index t1_0 a * S1x1.size a + S1x1.size a
      rw [e a, Nat.zero_mul, Nat.zero_add]
      exact ⟨Nat.zero_le _, (i a).isLt⟩⟩)

end Cert.KernelIdeal.Hist

end
-- ==== Proof.Run.lean ====
module

public import proofs.«01_k».proof.Proof.Regions
public import proofs.«01_k».proof.Proof.Gen.KernelIdeal.Regions

/-! The whole kernel's run at any float values: it ends with the result at the score of the counts, the arguments as
    launched and every semaphore counter at zero. -/

@[expose] public section

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's four items -/

/-- The contents at launch. -/
abbrev at0 (c : Dev nD) : Valuation τ sig (Elt F) := fun b => m (c, b)
/-- The contents after the transpose and the reshape. -/
abbrev at1 (c : Dev nD) : Valuation τ sig (Elt F) := StableHlo.after hostOps0 (at0 m c)
/-- The same, at the references the counting region's proof data take. -/
abbrev in0 : (c : Dev nD) → (b : Ref sig .tc) → Buf (Elt F) ((c : Thread nD τ).loc b) := fun c b => at1 m c b
/-- The counts of all blocks. -/
def table (c : Dev nD) : Vec F S10x10 .f32 := counts (in0 m) c 24 last0.isLt
/-- The contents after the counting region. -/
def at2 (c : Dev nD) : Valuation τ sig (Elt F) := Function.update (at1 m c) main_v2 (table m c)
/-- The same, at the references the score region's proof data take. -/
abbrev in1 : (c : Dev nD) → (b : Ref sig .tc) → Buf (Elt F) ((c : Thread nD τ).loc b) := fun c b => at2 m c b
/-- The contents after the score region. -/
def at3 (c : Dev nD) : Valuation τ sig (Elt F) := Function.update (at2 m c) main_v3 (k1_pay1 (table m c))
/-- The same, at the references. -/
abbrev out1 : (c : Dev nD) → (b : Ref sig .tc) → Buf (Elt F) ((c : Thread nD τ).loc b) := fun c b => at3 m c b
/-- The contents at the end. -/
abbrev at4 (c : Dev nD) : Valuation τ sig (Elt F) := StableHlo.after hostOps2 (at3 m c)

/-- The first two operations change only their own results. -/
theorem at1_of (c : Dev nD) (r : Ref sig .tc) (h : r ∉ hostOps0_W) : at1 m c r = at0 m c r :=
  StableHlo.after_of_writes_sub hostOps0 _ hostOps0_writes h
/-- The counting region changes only its output array. -/
theorem at2_of (c : Dev nD) (r : Ref sig .tc) (h : r ≠ main_v2) : at2 m c r = at1 m c r := by
  unfold at2; rw [Function.update_of_ne (StableHlo.devRef_ne_of_ne h : (Proc.devRef .tc r : DevRef τ sig) ≠ Proc.devRef .tc main_v2)]
/-- The counting region leaves the counts. -/
theorem at2_self (c : Dev nD) : at2 m c main_v2 = table m c := by unfold at2; exact Function.update_self ..
/-- The score region changes only its output array. -/
theorem at3_of (c : Dev nD) (r : Ref sig .tc) (h : r ≠ main_v3) : at3 m c r = at2 m c r := by
  unfold at3; rw [Function.update_of_ne (StableHlo.devRef_ne_of_ne h : (Proc.devRef .tc r : DevRef τ sig) ≠ Proc.devRef .tc main_v3)]
/-- The score region leaves the score. -/
theorem at3_self (c : Dev nD) : at3 m c main_v3 = k1_pay1 (table m c) := by unfold at3; exact Function.update_self ..
/-- The last reshape changes only the result. -/
theorem at4_of (c : Dev nD) (r : Ref sig .tc) (h : r ∉ hostOps2_W) : at4 m c r = at3 m c r :=
  StableHlo.after_of_writes_sub hostOps2 _ hostOps2_writes h

/-- The first argument ends as launched. -/
theorem at4_arg0 (c : Dev nD) : at4 m c main_arg0 = m ((c : Thread nD τ).loc main_arg0) :=
  (at4_of m c main_arg0 (by decide)).trans <| (at3_of m c main_arg0 (by decide)).trans <| (at2_of m c main_arg0 (by decide)).trans <| at1_of m c main_arg0 (by decide)
/-- The second argument ends as launched. -/
theorem at4_arg1 (c : Dev nD) : at4 m c main_arg1 = m ((c : Thread nD τ).loc main_arg1) :=
  (at4_of m c main_arg1 (by decide)).trans <| (at3_of m c main_arg1 (by decide)).trans <| (at2_of m c main_arg1 (by decide)).trans <| at1_of m c main_arg1 (by decide)
/-- The result is the score, reshaped to a scalar. -/
theorem at4_result (c : Dev nD) : at4 m c main_v4 = shapeCast S_ (k1_pay1 (table m c)) shapeCasts_S1x1_S_ := by
  rw [← at3_self m c]
  unfold at4
  after_results
  rfl

/-! ## The regions as segments -/

/-- The two regions' proof data, each at its entry contents. -/
def pdats : (p : Fin 2) → (c : Dev nD) → Dat τ (Elt F) Unit ℕ (UR sig nD τ) ℕ (Pipeline.pin (pcfgs (F := F)) adm p) c
  | ⟨0, _⟩ => fun c => dat0 (in0 m) c
  | ⟨1, _⟩ => fun c => dat1 (in1 m) c

/-- No level is assigned: no core owes another anything. -/
abbrev noLevels : GSem nD τ sig → Finset Unit := fun _ => ∅
/-- The level of every unit, never read. -/
abbrev level : GSem nD τ sig → Unit → ℕ := fun _ _ => 0
/-- What rides beside the buffers: the generator register at some state, nothing owed. -/
abbrev rest (c : Dev nD) : sProp 𝕄 := iprop((∃ r, prngReg c r) ∗ ∃ W, owes (c : Thread nD τ) (0 : CellTallies nD τ sig Unit) W)

/-- The counting region's arrays at its exit. -/
theorem exit0 (c : Dev nD) (w : Fin cfg0.W) : (dat0 (in0 m) c).arrAt w cfg0.N = in1 m c (Pipeline.arrRef spec0 w) :=
  match w with
  | ⟨0, _⟩ => (((dat0 (in0 m) c).arrAt_in 0 rfl _).trans (arrays0 (in0 m) c 0)).trans (at2_of m c main_v0 (by decide)).symm
  | ⟨1, _⟩ => (((dat0 (in0 m) c).arrAt_in 1 rfl _).trans (arrays0 (in0 m) c 1)).trans (at2_of m c main_v1 (by decide)).symm
  | ⟨2, _⟩ => (final0 (in0 m) c).trans (at2_self m c).symm

/-- The counting region leaves every other buffer as it found it. -/
theorem others0 (c : Dev nD) : ∀ b, b ∉ Finset.univ.image (Pipeline.arrRef spec0) → in1 m c b = in0 m c b :=
  fun b hb => at2_of m c b fun e => hb (Finset.mem_image.mpr ⟨2, Finset.mem_univ _, e.symm⟩)

/-- The score region's arrays at its exit. -/
theorem exit1 (c : Dev nD) (w : Fin cfg1.W) : (dat1 (in1 m) c).arrAt w cfg1.N = out1 m c (Pipeline.arrRef spec1 w) :=
  match w with
  | ⟨0, _⟩ => (((dat1 (in1 m) c).arrAt_in 0 rfl _).trans (arrays1 (in1 m) c 0)).trans (at3_of m c main_v2 (by decide)).symm
  | ⟨1, _⟩ => ((final1 (in1 m) c).trans (congrArg k1_pay1 (at2_self m c))).trans (at3_self m c).symm

/-- The score region leaves every other buffer as it found it. -/
theorem others1 (c : Dev nD) : ∀ b, b ∉ Finset.univ.image (Pipeline.arrRef spec1) → out1 m c b = in1 m c b :=
  fun b hb => at3_of m c b fun e => hb (Finset.mem_image.mpr ⟨1, Finset.mem_univ _, e.symm⟩)

set_option backward.isDefEq.respectTransparency.types false in
/-- The counting region over the buffers' contents: entered after the two host operations, left with the counts. -/
def region0 : Pipeline.RegionSeg (pcfgs (F := F)) adm (pdats m) () defs₀ Variants.none noLevels level 0 where
  win := launch0.win.to₀
  block_pos := launch0.block_pos
  stage_whole := launch0.stage_whole
  K := PEmpty
  osem k := k.elim
  ho := Pipeline.OwnSemFacts.none _
  hbody c := (obligation0 (in0 m) c).loose
  hwaits := Pipeline.hwaits_of_owed_zero _ _ _ _ noLevels level 0 fun _ _ => rfl
  pre c := iprop(StableHlo.held (c : Thread nD τ) (Pipeline.ucRefs τ sig) (at1 m c) ∗ rest c)
  post c := iprop(StableHlo.held (c : Thread nD τ) (Pipeline.ucRefs τ sig) (at2 m c) ∗ rest c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in0 m c) (arrays0 (in0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = inv (in0 m) c 0 from rfl]
    iintro ⟨Hp, -, Hr⟩
    iapply (inv_of_entry (in0 m) c)
    unfold Pipeline.ΦA
    isplitl [Hr]; · iexact Hr
    iexact Hp
  hout c := by
    rw [Pipeline.ownSems0_none, show (pdats m 0 c).Φ (Fin.last _) = inv (in0 m) c cfg0.N from rfl]
    iintro H
    ihave H' := (entry_of_inv (in0 m) c cfg0.N) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in0 m c) (in1 m c) ((pdats m 0 c).arrAt · cfg0.N) (exit0 m c) (others0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The score region over the buffers' contents: entered with the counts, left with their score. -/
def region1 : Pipeline.RegionSeg (pcfgs (F := F)) adm (pdats m) () defs₀ Variants.none noLevels level 1 where
  win := launch1.win.to₀
  block_pos := launch1.block_pos
  stage_whole := launch1.stage_whole
  K := PEmpty
  osem k := k.elim
  ho := Pipeline.OwnSemFacts.none _
  hbody c := (obligation1 (in1 m) c).loose
  hwaits := Pipeline.hwaits_of_owed_zero _ _ _ _ noLevels level 1 fun _ _ => rfl
  pre c := iprop(StableHlo.held (c : Thread nD τ) (Pipeline.ucRefs τ sig) (at2 m c) ∗ rest c)
  post c := iprop(StableHlo.held (c : Thread nD τ) (Pipeline.ucRefs τ sig) (at3 m c) ∗ rest c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) (arrays1 (in1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (out1 m c) ((pdats m 1 c).arrAt · cfg1.N) (exit1 m c) (others1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program's segments and its launch -/

/-- A stretch of host operations as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels level :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- The program's four segments in order. -/
abbrev items : List (Pipeline.Seg (pcfgs (F := F)) adm (pdats m) () defs₀ Variants.none noLevels level) :=
  [ .host (stretch hostOps0 hostOps0_sub hostOps0_fresh (at0 m)), .region (region0 m), .region (region1 m),
    .host (stretch hostOps2 hostOps2_sub hostOps2_fresh (at3 m)) ]

/-- The program is the run of its segments. -/
theorem main_items (c : Dev nD) : main (F := F) c = Pipeline.Seg.run (items m) := (main_chain c).trans (by chain_rfl)

/-- An unscoped buffer is among those the thread state holds. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run: the result ends at the score of the counts, the arguments as launched, every counter at zero. -/
theorem run_main : θ_run defs (onTc (τ := τ) (main (F := F))) ⟨m, fun _ => 0, ρ⟩ (fun r => (∀ c : Dev nD,
      r.2.mem ((c.tc : Thread nD τ).loc main_v4) = shapeCast S_ (k1_pay1 (table m c)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m) () cellOf_inj emb₁ defs₀ Variants.none noLevels level m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ rest c))
    (Tₙ := fun c => iprop(StableHlo.held (c : Thread nD τ) (Pipeline.ucRefs τ sig) (at4 m c) ∗ ∃ r, prngReg c r))
    (hch := ⟨fun _ => .rfl, fun _ => .rfl, fun _ => .rfl, fun _ => .rfl, fun c => by
      dsimp only [Pipeline.Seg.post, stretch, Pipeline.HostSeg.ofOps]
      iintro ⟨Hh, Hp, HO⟩
      isplitl [Hh Hp]
      · isplitl [Hh]; · iexact Hh
        iexact Hp
      iexact HO⟩)
    (hinit := by
      refine Pipeline.initEach noLevels level fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at4 m c b)
    (hfin := fun c s' => by
      iintro ⟨⟨Hh, -⟩, HSI⟩
      unfold StableHlo.held
      imodintro
      iapply (pointsTo_read_all (Pipeline.ucRefs τ sig) (fun b => (((c : Thread nD τ)).1, b)) (at4 m c) s')
      isplitl [Hh] <;> iassumption)
    (hQ := fun s h hz => ⟨(fun c =>
      ⟨(h c _ (mem_held main_v4 (by decide))).trans (at4_result m c),
        (h c _ (mem_held main_arg0 (by decide))).trans (at4_arg0 m c),
        (h c _ (mem_held main_arg1 (by decide))).trans (at4_arg1 m c)⟩), funext fun g => hz g (.inr (regions_no_unscoped g.2))⟩)

end Cert.KernelIdeal.Hist

end
-- ==== Proof.RefRun.lean ====
module

public import proofs.«01_k».proof.Defs
public import proofs.«01_k».proof.Proof.Gen.ReferenceIdeal
public import Idealize.ShloMosaic.Lib.StableHlo.RunHlo
public import Idealize.ShloMosaic.Lib.Claim
public import Idealize.ShloMosaic.Lib.Quiescent

/-! The reference's run at any float values: what its result holds, as functions of its two arguments. -/

@[expose] public section

set_option maxRecDepth 65536

noncomputable section

namespace Cert.ReferenceIdeal.Hist

open Cert.ReferenceIdeal Cert.ReferenceIdeal.Gen
open Idealize.ShloMosaic Idealize.SL.Sem

variable {F : FTy → Type} [FloatOps F]

/-- The predicted categories: each row's arg-max. -/
def preds (x : FVec F S4000000x10 .f32) : IVec S4000000 32 := fun j =>
  (Host.argReduce reducer_argmax_f32_i32 x (iotaInDim S4000000x10 32 1) (constant S_ .f32 0xFF800000#32) (constantI S_ 32 0#32)
    reducesTo_S4000000x10_S4000000_d1 h_S_ j).2

/-- The cell of the table a sample counts in: ten times its target plus its prediction. -/
def cell (x : FVec F S4000000x10 .f32) (t : IVec S4000000 32) : IVec S4000000 32 :=
  addi (muli t (broadcastInDim S4000000 ![] bcast_S_S4000000 (constantI S_ 32 10#32))) (preds x)

/-- A cell number, no smaller than zero. -/
def clipped (k : IVec S4000000 32) : IVec S4000000 32 :=
  maxsi (broadcastInDim S4000000 ![] bcast_S_S4000000 (constantI S_ 32 0#32)) k

/-- The cell number as an index: a negative one counted from the end. -/
def wrapped (k : IVec S4000000 32) : IVec S4000000 32 :=
  select (cmpi .slt k (broadcastInDim S4000000 ![] bcast_S_S4000000 (constantI S_ 32 0#32)))
    (addi k (broadcastInDim S4000000 ![] bcast_S_S4000000 (constantI S_ 32 100#32))) k

/-- How often each cell number occurs. -/
def bins (k : IVec S4000000 32) : IVec S100 32 :=
  Host.scatter scatter_S100_S4000000x1_S4000000_n_0_0_1 IntOp.addi (broadcastInDim S100 ![] bcast_S_S100 (constantI S_ 32 0#32))
    (broadcastInDim S4000000x1 ![0] bcast_S4000000_S4000000x1_0 k)
    (broadcastInDim S4000000 ![] bcast_S_S4000000 (constantI S_ 32 1#32))

/-- The table of counts, as floats. -/
def counted (x : FVec F S4000000x10 .f32) (t : IVec S4000000 32) : FVec F S10x10 .f32 :=
  sitofp .f32 (shapeCast S10x10 (bins (wrapped (clipped (cell x t)))) shapeCasts_S100_S10x10)

/-- The table divided by the number of samples. -/
def shares (cm : FVec F S10x10 .f32) : FVec F S10x10 .f32 :=
  Host.divf cm (broadcastInDim S10x10 ![] bcast_S_S10x10 (constant S_ .f32 0x4A742400#32))

/-- The product of the table's two marginals. -/
def expected (p : FVec F S10x10 .f32) : FVec F S10x10 .f32 :=
  mulf (broadcastInDim S10x10 ![0, 1] bcast_S10x1_S10x10_0_1 (broadcastInDim S10x1 ![0] bcast_S10_S10x1_0
      (Host.reduceAdd p (constant S_ .f32 0x00000000#32) reducesTo_S10x10_S10_d1 h_S_)))
    (broadcastInDim S10x10 ![0, 1] bcast_S1x10_S10x10_0_1 (broadcastInDim S1x10 ![1] bcast_S10_S1x10_1
      (Host.reduceAdd p (constant S_ .f32 0x00000000#32) reducesTo_S10x10_S10_d0 h_S_)))

/-- The difference of the two categories of a cell. -/
def gap : FVec F S10x10 .f32 :=
  subf (broadcastInDim S10x10 ![0, 1] bcast_S10x1_S10x10_0_1 (broadcastInDim S10x1 ![0] bcast_S10_S10x1_0 (sitofp .f32 (iotaInDim S10 32 0))))
    (broadcastInDim S10x10 ![0, 1] bcast_S1x10_S10x10_0_1 (broadcastInDim S1x10 ![1] bcast_S10_S1x10_1 (sitofp .f32 (iotaInDim S10 32 0))))

/-- The quadratic weights. -/
def weights : FVec F S10x10 .f32 :=
  subf (broadcastInDim S10x10 ![] bcast_S_S10x10 (constant S_ .f32 0x3F800000#32))
    (Host.divf (mulf gap gap) (broadcastInDim S10x10 ![] bcast_S_S10x10 (constant S_ .f32 0x42A20000#32)))

/-- The weighted total of a table. -/
def total (p : FVec F S10x10 .f32) : FVec F S_ .f32 :=
  Host.reduceAdd (mulf weights p) (constant S_ .f32 0x00000000#32) reducesTo_S10x10_S_d0_1 h_S_

/-- The agreement expected by chance, clipped. -/
def chance (p : FVec F S10x10 .f32) : FVec F S_ .f32 :=
  minimumf (constant S_ .f32 0x3F7FFFFE#32) (maximumf (constant S_ .f32 0x00000000#32) (total (expected p)))

/-- One minus the clipped kappa of a table of shares. -/
def loss (p : FVec F S10x10 .f32) : FVec F S_ .f32 :=
  subf (constant S_ .f32 0x3F800000#32)
    (minimumf (constant S_ .f32 0x3F800000#32) (maximumf (constant S_ .f32 0xBF800000#32)
      (Host.divf (subf (total p) (chance p))
        (addf (subf (constant S_ .f32 0x3F800000#32) (chance p)) (constant S_ .f32 0x33D6BF95#32)))))

variable (m : (ℓ : Loc nD τ sig) → Buf (Elt F) ℓ) (ρ : Dev nD → PrngReg)

/-- The reference ends with the loss of the counted table as its result and its arguments as launched. -/
theorem run_values :
    θ_run (defs (F := F)) (onTc (τ := τ) (main (F := F))) ⟨m, fun _ => 0, ρ⟩ (fun r => ∀ c : Dev nD,
      r.2.mem ((c.tc : Thread nD τ).loc main_v46)
          = loss (shares (counted (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  simp -implicitDefEqProofs only [StableHlo.TRef.toBuf, StableHlo.TRef.ofBuf, cast_cast, cast_eq]
  unfold loss chance total expected weights gap shares counted bins wrapped clipped cell preds
  rfl

/-- The same, and every semaphore counter ends at zero: the reference declares none. -/
theorem run_main :
    θ_run (defs (F := F)) (onTc (τ := τ) (main (F := F))) ⟨m, fun _ => 0, ρ⟩ (fun r => (∀ c : Dev nD,
      r.2.mem ((c.tc : Thread nD τ).loc main_v46)
          = loss (shares (counted (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_values m ρ) fun r h => ⟨h, sem_eq_zero_of_no_sems (by decide) r.2⟩

end Cert.ReferenceIdeal.Hist
-- ==== Proof.Tally.lean ====
module

public import Idealize.ShloMosaic.Lib.ValueIdx
public import Mathlib.Data.Nat.Count

/-! The number of samples in each cell of the table, counted on the naturals: what both programs compute. -/

@[expose] public section

noncomputable section

namespace Cert.Hist

open Idealize.ShloMosaic Idealize.ShloMosaic.ValueIdx

/-- Sample `r` counts in cell `(i, j)`: its target is `i`, and no category has a larger logit than `j`. -/
def hit (x : FVec Ideal ⟨2, ![4000000, 10]⟩ .f32) (t : IVec ⟨1, ![4000000]⟩ 32) (i j : Fin 10) (r : ℕ) : Prop :=
  ∃ h : r < 4000000, t (ix1 ⟨r, h⟩) = BitVec.ofNat 32 i.val ∧ ∀ k : Fin 10, x (ix2 ⟨r, h⟩ k) ≤ x (ix2 ⟨r, h⟩ j)

open Classical in
/-- The number of samples below `n` that count in cell `(i, j)`. -/
def tally (x : FVec Ideal ⟨2, ![4000000, 10]⟩ .f32) (t : IVec ⟨1, ![4000000]⟩ 32) (i j : Fin 10) (n : ℕ) : ℕ := Nat.count (hit x t i j) n

/-- A sum of indicators is the number of times the condition holds. -/
theorem sum_indicator (n : ℕ) (P : ℕ → Prop) [DecidablePred P] :
    ∑ k : Fin n, (if P k.val then (1 : EReal) else 0) = (Nat.count P n : EReal) := by
  rw [Fin.sum_univ_eq_sum_range (fun k => if P k then (1 : EReal) else 0) n, Finset.sum_boole, Nat.count_eq_card_filter_range]

/-- A count looks only at the numbers below its bound. -/
theorem count_congr_below (n : ℕ) (P Q : ℕ → Prop) [DecidablePred P] [DecidablePred Q] (h : ∀ k, k < n → (P k ↔ Q k)) :
    Nat.count P n = Nat.count Q n := by
  rw [Nat.count_eq_card_filter_range, Nat.count_eq_card_filter_range]
  exact congrArg _ (Finset.filter_congr fun k hk => h k (Finset.mem_range.1 hk))

/-- The count over `n` further numbers, read from the first of them. -/
theorem count_block (a n : ℕ) (P Q : ℕ → Prop) [DecidablePred P] [DecidablePred Q] (h : ∀ k, k < n → (Q k ↔ P (a + k))) :
    Nat.count P a + Nat.count Q n = Nat.count P (a + n) := by
  rw [Nat.count_add, count_congr_below n Q (fun k => P (a + k)) h]

/-- The tally of no samples. -/
theorem tally_zero (x : FVec Ideal ⟨2, ![4000000, 10]⟩ .f32) (t : IVec ⟨1, ![4000000]⟩ 32) (i j : Fin 10) : tally x t i j 0 = 0 := by
  unfold tally; simp only [Nat.count_zero]

open Classical in
/-- No more samples count than there are. -/
theorem tally_le (x : FVec Ideal ⟨2, ![4000000, 10]⟩ .f32) (t : IVec ⟨1, ![4000000]⟩ 32) (i j : Fin 10) (n : ℕ) : tally x t i j n ≤ n :=
  Nat.count_le _

/-- An entry is the maximum of a family exactly when no entry is larger. -/
theorem eq_fold_max {ι : Type} [Fintype ι] (f : ι → EReal) (j : ι) :
    f j = (Finset.univ : Finset ι).fold max ⊥ f ↔ ∀ k, f k ≤ f j := by
  constructor
  · intro e k
    rw [e, Finset.le_fold_max]
    exact .inr ⟨k, Finset.mem_univ _, le_rfl⟩
  · intro h
    refine le_antisymm ((Finset.le_fold_max _).2 (.inr ⟨j, Finset.mem_univ _, le_rfl⟩)) ((Finset.fold_max_le _).2 ⟨bot_le, fun k _ => h k⟩)

/-- Minus infinity's word. -/
theorem ofBits_bot : Ideal.ofBits .f32 0xFF800000#32 = ⊥ := by simp [Ideal.ofBits, Ideal.ieee]

/-- A decided bit, widened and converted, is the indicator. -/
theorem indicator (p : Prop) [Decidable p] :
    (((((BitVec.ofBool (decide p)).setWidth 32).toInt : ℝ)) : EReal) = if p then 1 else 0 := by
  by_cases h : p <;> simp [h]

end Cert.Hist
-- ==== Proof.KernelTally.lean ====
module

public import proofs.«01_k».proof.Proof.Run
public import proofs.«01_k».proof.Proof.Tally
public import Idealize.ShloMosaic.Lib.MatmulPlain
public import Idealize.ShloMosaic.PureOps.Ideal.Laws
public import Idealize.ShloMosaic.Lib.StableHlo.RunHlo
public import Idealize.ShloMosaic.Lib.Claim

/-! The kernel's table of counts over the extended reals: each block adds its own counts. -/

@[expose] public section

set_option maxRecDepth 16384

noncomputable section

namespace Cert.KernelIdeal.Hist

open Cert.KernelIdeal Cert.KernelIdeal.Gen Cert.Hist
open Idealize.ShloMosaic Idealize.ShloMosaic.ValueIdx Idealize.ShloMosaic.Pipeline

/-- The indicator of a category attaining its sample's maximum, in a block. -/
theorem best_apply (v : FVec Ideal S10x160000 .f32) (j : Fin 10) (k : Fin 160000) :
    (sitofp .f32 (extui 32 (cmpf .oeq v (broadcastTo S10x160000 (shapeCast S1x160000
      (multiReduction .maximumf [0] S160000 v 0xFF800000#32 reduces_S10x160000_S160000 (.inl rfl) rfl)
      shapeCasts_S160000_S1x160000) broadcasts_S1x160000_S10x160000)) natLt_1_32) : FVec Ideal S10x160000 .f32) (ix2 j k)
      = if ∀ l : Fin 10, v (ix2 l k) ≤ v (ix2 j k) then 1 else 0 := by
  have e : broadcastTo S10x160000 (shapeCast S1x160000
      (multiReduction .maximumf [0] S160000 v 0xFF800000#32 reduces_S10x160000_S160000 (.inl rfl) rfl)
      shapeCasts_S160000_S1x160000) broadcasts_S1x160000_S10x160000 (ix2 j k)
      = (Finset.univ : Finset (Fin 10)).fold max ⊥ fun l => v (ix2 l k) := by
    rw [broadcastTo_apply _ _ _ (ix2 (0 : Fin 1) k) (by intro a; fin_cases a <;> rfl),
      shapeCast_addUnit_apply]
    refine (Ideal.multiReduction_maximumf_single v _ _ _ _ _).trans ?_
    rw [show (FloatOps.ofBits FTy.f32 0xFF800000#32 : Ideal .f32) = ⊥ from ofBits_bot]
    refine congrArg (Finset.univ.fold max ⊥) (funext fun l => ?_)
    refine congrArg v (funext fun a => ?_)
    fin_cases a <;> rfl
  rw [sitofp_apply, extui_apply, cmpf_apply, e]
  refine (indicator _).trans ?_
  simp only [eq_fold_max fun l : Fin 10 => v (ix2 l k)]

/-- The indicator of a sample's target, in a block. -/
theorem target_apply (v : IVec S1x1x160000 32) (i : Fin 10) (k : Fin 160000) :
    (sitofp .f32 (extui 32 (cmpi .eq (iota .tc S10x160000 32 [0] iota_S10x160000_d0_w32)
      (broadcastTo S10x160000 (shapeCast S1x160000 v shapeCasts_S1x1x160000_S1x160000) broadcasts_S1x160000_S10x160000)) natLt_1_32)
      : FVec Ideal S10x160000 .f32) (ix2 i k)
      = if v (ix3 0 0 k) = BitVec.ofNat 32 i.val then 1 else 0 := by
  have e : broadcastTo S10x160000 (shapeCast S1x160000 v shapeCasts_S1x1x160000_S1x160000) broadcasts_S1x160000_S10x160000 (ix2 i k)
      = v (ix3 0 0 k) := by
    rw [broadcastTo_apply _ _ _ (ix2 (0 : Fin 1) k) (by intro a; fin_cases a <;> rfl), shapeCast_dropUnit_apply]
    refine congrArg v ?_
    funext a; fin_cases a <;> rfl
  rw [sitofp_apply, extui_apply]
  rw [show cmpi .eq (iota .tc S10x160000 32 [0] iota_S10x160000_d0_w32)
      (broadcastTo S10x160000 (shapeCast S1x160000 v shapeCasts_S1x1x160000_S1x160000) broadcasts_S1x160000_S10x160000) (ix2 i k)
      = BitVec.ofBool (decide (v (ix3 0 0 k) = BitVec.ofNat 32 i.val)) from ?_]
  · exact indicator _
  · unfold cmpi
    rw [e, iota_single_apply]
    show BitVec.ofBool (BitVec.ofNat 32 i.val == v (ix3 0 0 k)) = _
    rw [Bool.beq_comm]; rfl

/-- The condition for place `k` of a block to count in cell `(i, j)`. -/
def blockHit (v0 : FVec Ideal S10x160000 .f32) (v10 : IVec S1x1x160000 32) (i j : Fin 10) (k : ℕ) : Prop :=
  ∃ h : k < 160000, v10 (ix3 0 0 ⟨k, h⟩) = BitVec.ofNat 32 i.val ∧ ∀ l : Fin 10, v0 (ix2 l ⟨k, h⟩) ≤ v0 (ix2 j ⟨k, h⟩)

/-- The body's contraction is the product with the second operand transposed. -/
theorem dot_eq : dot_S10x160000_S10x160000_S10x10_1_1_0_0_n_n = DotDims.transposedRhs 10 160000 10 := rfl

open Classical in
/-- The counting body adds the block's counts. -/
theorem k0_pay2_apply (v0 : FVec Ideal S10x160000 .f32) (v10 : IVec S1x1x160000 32) (v21 : FVec Ideal S10x10 .f32) (i j : Fin 10) :
    k0_pay2 (F := Ideal) v0 v10 v21 (ix2 i j) = v21 (ix2 i j) + (Nat.count (blockHit v0 v10 i j) 160000 : EReal) := by
  unfold k0_pay2
  simp only [shapeCast_self]
  rw [addf_apply]
  refine congrArg (v21 (ix2 i j) + ·) ?_
  rw [dot_eq]
  refine (Ideal.matmul_transposedRhs_apply (φ₁ := .bf16) (φ₂ := .bf16) none _ _ _ i j).trans ?_
  rw [show (constant S10x10 .f32 0x00000000#32 : FVec Ideal S10x10 .f32) (ix2 i j) = 0 from Ideal.ofBits_zero_f32, zero_add,
    ← sum_indicator]
  refine Finset.sum_congr rfl fun k _ => ?_
  rw [truncf_apply, truncf_apply, target_apply, best_apply]
  by_cases h1 : v10 (ix3 0 0 k) = BitVec.ofNat 32 i.val <;> by_cases h2 : ∀ l : Fin 10, v0 (ix2 l k) ≤ v0 (ix2 j k) <;>
    simp [blockHit, h1, h2]

variable (m : (ℓ : Loc nD τ sig) → Buf (Elt Ideal) ℓ)

/-- The logits as launched. -/
abbrev logits (c : Dev nD) : FVec Ideal S4000000x10 .f32 := m ((c.tc : Thread nD τ).loc main_arg0)
/-- The targets as launched. -/
abbrev targets (c : Dev nD) : IVec S4000000 32 := m ((c.tc : Thread nD τ).loc main_arg1)

/-- The counting region reads the logits transposed. -/
theorem in0_v0 (c : Dev nD) : in0 m c main_v0 = transpose S10x4000000 [1, 0] (logits m c) transposes_S4000000x10_S10x4000000_1_0 := by
  unfold_abbrev_sides
  after_results

/-- The counting region reads the targets in rows. -/
theorem in0_v1 (c : Dev nD) : in0 m c main_v1 = shapeCast S25x1x160000 (targets m c) shapeCasts_S4000000_S25x1x160000 := by
  unfold_abbrev_sides
  after_results
  rfl

/-- The grid's one coordinate, as the index maps read it. -/
theorem coord_toNat (t : Fin cfg0.N) : (BitVec.ofNat 32 (grid0.coords t 0).val).toNat = t.val := by
  have ht : t.val < 25 := Nat.lt_of_lt_of_eq t.isLt N_0
  have e0 : (grid0.coords t 0).val = t.val / 1 % 25 := Pipeline.Grid.coords_val t 0 (by decide) rfl
  rw [e0, BitVec.toNat_ofNat]
  omega

/-- Window 0's block `t` holds the logits of samples `160000·t` and on. -/
theorem block0_logits (c : Dev nD) (t : Fin cfg0.N) (l : Fin 10) (k : Fin 160000) (h : t.val * 160000 + k.val < 4000000) :
    block0 (in0 m) c 0 t (ix2 l k) = logits m c (ix2 ⟨t.val * 160000 + k.val, h⟩ l) := by
  unfold block0
  show in0 m c main_v0 (((cfg0.win 0).rect t).emb (ix2 l k)) = _
  rw [in0_v0]
  refine transpose_apply _ _ _ _ _ fun b => ?_
  refine Eq.trans ?_ (Window.rect_emb_val (cfg0.win 0) t (ix2 l k) b).symm
  match b with
  | ⟨0, _⟩ => show l.val = 0 * 10 + l.val; omega
  | ⟨1, _⟩ =>
    show t.val * 160000 + k.val = (BitVec.ofNat 32 (grid0.coords t 0).val).toNat * 160000 + k.val
    rw [coord_toNat]

/-- Window 1's block `t` holds the targets of samples `160000·t` and on. -/
theorem block0_targets (c : Dev nD) (t : Fin cfg0.N) (k : Fin 160000) (h : t.val * 160000 + k.val < 4000000) :
    block0 (in0 m) c 1 t (ix3 0 0 k) = targets m c (ix1 ⟨t.val * 160000 + k.val, h⟩) := by
  unfold block0
  show in0 m c main_v1 (((cfg0.win 1).rect t).emb (ix3 0 0 k)) = _
  rw [in0_v1]
  refine shapeCast_apply _ _ _ _ ?_
  rw [Shape.rowMajor_val_one]
  refine Eq.trans ?_ (Shape.rowMajor_val_three _).symm
  have e0 := (Window.rect_emb_val (cfg0.win 1) t (ix3 0 0 k) 0)
  have e1 := (Window.rect_emb_val (cfg0.win 1) t (ix3 0 0 k) 1)
  have e2 := (Window.rect_emb_val (cfg0.win 1) t (ix3 0 0 k) 2)
  rw [e0, e1, e2]
  show t.val * 160000 + k.val = (((BitVec.ofNat 32 (grid0.coords t 0).val).toNat * 1 + 0) * 1 + (0 * 1 + 0)) * 160000 + (0 * 160000 + k.val)
  rw [coord_toNat]
  omega

open Classical in
/-- A block's counts are the tally's increase over its samples. -/
theorem block_count (c : Dev nD) (t : Fin cfg0.N) (i j : Fin 10) :
    tally (logits m c) (targets m c) i j (t.val * 160000) + Nat.count (blockHit (block0 (in0 m) c 0 t) (block0 (in0 m) c 1 t) i j) 160000
      = tally (logits m c) (targets m c) i j (t.val * 160000 + 160000) := by
  have ht : t.val < 25 := Nat.lt_of_lt_of_eq t.isLt N_0
  refine count_block _ _ (hit (logits m c) (targets m c) i j) _ fun k hk => ?_
  have h : t.val * 160000 + k < 4000000 := by omega
  unfold blockHit hit
  rw [exists_prop_of_true hk, exists_prop_of_true h, block0_targets m c t ⟨k, hk⟩ h]
  simp only [block0_logits m c t _ ⟨k, hk⟩ h]

/-- After block `n` the table holds the tally of all samples so far. -/
theorem counts_tally (c : Dev nD) (i j : Fin 10) (n : ℕ) (h : n < cfg0.N) :
    counts (in0 m) c n h (ix2 i j) = (tally (logits m c) (targets m c) i j (n * 160000 + 160000) : EReal) := by
  induction n with
  | zero =>
    have e : (k0_pay1 (F := Ideal)) (ix2 i j) = 0 := by
      unfold k0_pay1
      rw [shapeCast_self]
      exact Ideal.ofBits_zero_f32
    have b := block_count m c ⟨0, h⟩ i j
    rw [show tally (logits m c) (targets m c) i j ((⟨0, h⟩ : Fin cfg0.N).val * 160000) = 0 from
      (congrArg _ (Nat.zero_mul 160000)).trans (tally_zero _ _ i j), Nat.zero_add] at b
    rw [counts, k0_pay2_apply, e, zero_add, b]
  | succ n ih =>
    rw [counts, k0_pay2_apply, ih (by omega), ← block_count m c ⟨n + 1, h⟩, Nat.cast_add, Nat.succ_mul n]

/-- The kernel's table is the tally of all samples. -/
theorem table_tally (c : Dev nD) (i j : Fin 10) :
    table m c (ix2 i j) = (tally (logits m c) (targets m c) i j 4000000 : EReal) := counts_tally m c i j 24 last0.isLt

end Cert.KernelIdeal.Hist
-- ==== Proof.Untied.lean ====
module

public import proofs.«01_k».proof.Defs
public import proofs.«01_k».proof.Proof.Gen.Pre_untied
public import proofs.«01_k».proof.Proof.Tally
public import Idealize.ShloMosaic.Lib.ReduceAll
public import Idealize.ShloMosaic.Lib.Routing.Ops
public import Idealize.ShloMosaic.PureOps.Ideal.Laws

/-! The precondition, read as two facts about the inputs: targets are category numbers, and every row has one
    category above all others. -/

@[expose] public section

set_option maxRecDepth 16384

noncomputable section

namespace Cert.Hist

open Idealize.ShloMosaic Idealize.ShloMosaic.ValueIdx
open Cert.Pre_untied Cert.Pre_untied.Gen

/-- Each row's maximum, repeated along the row. -/
def rowMax (x : FVec Ideal S4000000x10 .f32) : FVec Ideal S4000000x10 .f32 :=
  broadcastInDim S4000000x10 ![0, 1] bcast_S4000000x1_S4000000x10_0_1 (broadcastInDim S4000000x1 ![0] bcast_S4000000_S4000000x1_0
    (Host.reduce FloatOps.maximumf x (constant S_ .f32 0xFF800000#32) reducesTo_S4000000x10_S4000000_d1 h_S_))

/-- The row's maximum as a fold over its ten entries. -/
theorem rowMax_apply (x : FVec Ideal S4000000x10 .f32) (n : Fin 4000000) (k : Fin 10) :
    rowMax x (ix2 n k) = (Finset.univ : Finset (Fin 10)).fold max ⊥ fun l => x (ix2 n l) := by
  unfold rowMax
  refine (Routing.bcRows bcast_S4000000_S4000000x1_0 bcast_S4000000x1_S4000000x10_0_1 _ n k).trans ?_
  refine (Host.reduce_eq_fold_single (FloatOps.maximumf (F := Ideal) (φ := .f32)) x _ reducesTo_S4000000x10_S4000000_d1 (by decide) h_S_ (ix1 n)).trans ?_
  rw [show (constant S_ .f32 0xFF800000#32 : FVec Ideal S_ .f32) (Shape.Idx.first h_S_) = ⊥ from ofBits_bot]
  refine congrArg (Finset.univ.fold max ⊥) (funext fun l => ?_)
  refine congrArg x (funext fun a => ?_)
  fin_cases a <;> rfl

/-- The logits' rows each have one category above all others. -/
def Peaked (x : FVec Ideal S4000000x10 .f32) : Prop := ∀ n : Fin 4000000, ∃ j : Fin 10, ∀ k, k ≠ j → x (ix2 n k) < x (ix2 n j)

/-- The targets are category numbers. -/
def Categories (t : IVec S4000000 32) : Prop := ∀ n : Fin 4000000, ∃ i : Fin 10, t (ix1 n) = BitVec.ofNat 32 i.val

/-- A row whose maximum is attained once has one category above all others. -/
theorem peak_of_count (x : FVec Ideal S4000000x10 .f32) (n : Fin 4000000)
    (h : Host.reduce IntOp.addi (extui 32 (cmpf .oeq x (rowMax x)) natLt_1_32) (constantI S_ 32 0#32)
      reducesTo_S4000000x10_S4000000_d1 h_S_ (ix1 n) = 1#32) :
    ∃ j : Fin 10, ∀ k, k ≠ j → x (ix2 n k) < x (ix2 n j) := by
  have e := StableHlo.Predicate.toNat_reduce_count_cols (n := 4000000) (m := 10) (by omega) (cmpf .oeq x (rowMax x)) natLt_1_32
    reducesTo_S4000000x10_S4000000_d1 h_S_ (ix1 n)
  rw [h] at e
  obtain ⟨j, hj⟩ := Finset.card_eq_one.1 e.symm
  have key : ∀ k : Fin 10, (∀ l : Fin 10, x (ix2 n l) ≤ x (ix2 n k)) ↔ k = j := fun k => by
    rw [← Finset.mem_singleton, ← hj, Finset.mem_filter, ← eq_fold_max fun l : Fin 10 => x (ix2 n l), ← rowMax_apply x n k]
    have hk : (StableHlo.Predicate.ij ((ix1 n : S4000000.Idx) 0) k : S4000000x10.Idx) = ix2 n k := Routing.ij_eq_ix2 n k
    rw [hk, cmpf_apply]
    show _ ↔ _ ∧ BitVec.ofBool (decide (x (ix2 n k) = rowMax x (ix2 n k))) = 1#1
    by_cases c : x (ix2 n k) = rowMax x (ix2 n k) <;> simp [c]
  have top := (key j).2 rfl
  refine ⟨j, fun k hk => lt_of_le_of_ne (top k) fun c => hk ((key k).1 fun l => ?_)⟩
  rw [c]
  exact top l

/-- A word between zero and ten, read signed, is a category number. -/
theorem category_of_range (w : BitVec 32) (h0 : (0#32).toInt ≤ w.toInt) (h1 : w.toInt < (10#32).toInt) :
    ∃ i : Fin 10, w = BitVec.ofNat 32 i.val := by
  have a0 : (0#32).toInt = 0 := by decide
  have a1 : (10#32).toInt = 10 := by decide
  rw [a0] at h0
  rw [a1] at h1
  have e := BitVec.toInt_eq_toNat_cond w
  have l := w.isLt
  refine ⟨⟨w.toNat, ?_⟩, BitVec.eq_of_toNat_eq ?_⟩
  · split at e <;> omega
  · rw [BitVec.toNat_ofNat, Nat.mod_eq_of_lt l]

/-- What the precondition says. -/
theorem facts_of_pre (x : FVec Ideal S4000000x10 .f32) (t : IVec S4000000 32)
    (h : Cert.Pre_untied.fn (F := Ideal) x t = fun _ => 1#1) : Peaked x ∧ Categories t := by
  have h0 := congrFun h ix0
  unfold Cert.Pre_untied.fn Cert.Pre_untied.fn_part1 at h0
  obtain ⟨h01, hlt⟩ := IntOp.andi_eq_one.1 h0
  obtain ⟨hmax, hge⟩ := IntOp.andi_eq_one.1 h01
  haveI : Subsingleton S_.Idx := ⟨fun a b => funext fun d => d.elim0⟩
  refine ⟨fun n => peak_of_count x n ?_, fun n => category_of_range _ ?_ ?_⟩
  · exact IntOp.cmpi_eq.1 (Host.reduce_andi_all _ _ _ _ _ hmax (ix1 n))
  · exact IntOp.cmpi_sge.1 (Host.reduce_andi_all _ _ _ _ _ hge (ix1 n))
  · exact IntOp.cmpi_slt.1 (Host.reduce_andi_all _ _ _ _ _ hlt (ix1 n))

end Cert.Hist
-- ==== Proof.RefTally.lean ====
module

public import proofs.«01_k».proof.Proof.RefRun
public import proofs.«01_k».proof.Proof.Untied
public import Idealize.ShloMosaic.Lib.Routing.OpsPair

/-! The reference's table of counts over the extended reals, on rows with one largest category and targets in range. -/

@[expose] public section

set_option maxRecDepth 16384

noncomputable section

namespace Cert.ReferenceIdeal.Hist

open Cert.ReferenceIdeal Cert.ReferenceIdeal.Gen Cert.Hist
open Idealize.ShloMosaic Idealize.ShloMosaic.ValueIdx Idealize.ShloMosaic.Pipeline

/-! ## The arg-max of a row with one largest entry -/

/-- The arg-max body keeps the larger of two pairs on the left. -/
theorem argmax_left (a b : EReal × BitVec 32) (h : b.1 < a.1) : reducer_argmax_f32_i32 (F := Ideal) a b = a := by
  have e1 : FloatOps.cmpf (F := Ideal) (φ := .f32) .ogt a.1 b.1 = 1#1 := by
    show BitVec.ofBool (decide (b.1 < a.1)) = 1#1
    rw [decide_eq_true h]; rfl
  unfold reducer_argmax_f32_i32
  simp only [e1]
  have e2 : ∀ c : BitVec 1, IntOp.ori 1#1 c = 1#1 := by decide
  simp only [e2]
  rfl

/-- The arg-max body takes the right pair over a smaller one. -/
theorem argmax_right (a b : EReal × BitVec 32) (h : a.1 < b.1) : reducer_argmax_f32_i32 (F := Ideal) a b = b := by
  have e1 : FloatOps.cmpf (F := Ideal) (φ := .f32) .ogt a.1 b.1 = 0#1 := by
    show BitVec.ofBool (decide (b.1 < a.1)) = 0#1
    rw [decide_eq_false (not_lt.2 h.le)]; rfl
  have e2 : FloatOps.cmpf (F := Ideal) (φ := .f32) .une a.1 a.1 = 0#1 := by
    show BitVec.ofBool (decide (a.1 ≠ a.1)) = 0#1
    simp
  have e3 : FloatOps.cmpf (F := Ideal) (φ := .f32) .oeq a.1 b.1 = 0#1 := by
    show BitVec.ofBool (decide (a.1 = b.1)) = 0#1
    rw [decide_eq_false h.ne]; rfl
  unfold reducer_argmax_f32_i32
  simp only [e1, e2, e3]
  have e4 : ∀ c : BitVec 1, IntOp.andi 0#1 c = 0#1 := by decide
  simp only [e4]
  rfl

/-- The arg-max body of a pair with itself. -/
theorem argmax_self (a : EReal × BitVec 32) : reducer_argmax_f32_i32 (F := Ideal) a a = a := by
  unfold reducer_argmax_f32_i32
  exact Prod.ext (ite_self _) (ite_self _)

/-- The arg-max body gives one of its two values. -/
theorem argmax_lt (a b : EReal × BitVec 32) (v : EReal) (ha : a.1 < v) (hb : b.1 < v) :
    (reducer_argmax_f32_i32 (F := Ideal) a b).1 < v := by
  unfold reducer_argmax_f32_i32
  simp only [Scalar.select]
  split
  · exact ha
  · exact hb

/-- Folded over pairs all below one of them, the arg-max is that one. -/
theorem argmax_fold (p : EReal × BitVec 32) (L : List (EReal × BitVec 32)) (hL : ∀ q ∈ L, q = p ∨ q.1 < p.1) (a : EReal × BitVec 32)
    (ha : a = p ∨ a.1 < p.1 ∧ p ∈ L) : L.foldl (reducer_argmax_f32_i32 (F := Ideal)) a = p := by
  induction L generalizing a with
  | nil =>
    rcases ha with h | h
    · exact h
    · exact absurd h.2 List.not_mem_nil
  | cons q L ih =>
    refine ih (fun r hr => hL r (List.mem_cons_of_mem _ hr)) _ ?_
    rcases hL q List.mem_cons_self with rfl | hq
    · rcases ha with rfl | ha
      · exact .inl (argmax_self a)
      · exact .inl (argmax_right a q ha.1)
    · rcases ha with rfl | ha
      · exact .inl (argmax_left a q hq)
      · refine .inr ⟨argmax_lt a q _ ha.1 hq, ?_⟩
        rcases List.mem_cons.1 ha.2 with rfl | h
        · exact absurd hq (lt_irrefl _)
        · exact h

/-- Dropping the column of a matrix index leaves its row. -/
theorem drop_row {N M : ℕ} (h : (⟨2, ![N, M]⟩ : Shape).ReducesTo [1] ⟨1, ![N]⟩) (r : Fin N) (k : Fin M) : h.drop (ix2 r k) = ix1 r := by
  funext a; fin_cases a; rfl

/-- The arg-max of a matrix's row whose entry `j` is above all others and above the initial value. -/
theorem argmax_row {N M : ℕ} {u : Shape} (x : FVec Ideal ⟨2, ![N, M]⟩ .f32) (y : IVec ⟨2, ![N, M]⟩ 32) (ix : FVec Ideal u .f32)
    (iy : IVec u 32) (h : (⟨2, ![N, M]⟩ : Shape).ReducesTo [1] ⟨1, ![N]⟩) (hu : 0 < u.numel) (n : Fin N) (j : Fin M)
    (hj : ∀ k, k ≠ j → x (ix2 n k) < x (ix2 n j)) (hi : ix (Shape.Idx.first hu) < x (ix2 n j)) :
    (Host.argReduce (reducer_argmax_f32_i32 (F := Ideal)) x y ix iy h hu (ix1 n)).2 = y (ix2 n j) := by
  rw [Ideal.argReduce_eq_reduce2, Host.reduce2_eq_foldl_fiber]
  refine congrArg Prod.snd (a₂ := (x (ix2 n j), y (ix2 n j))) ?_
  refine argmax_fold (x (ix2 n j), y (ix2 n j)) _ (fun q hq => ?_) _ (.inr ⟨hi, ?_⟩)
  · unfold Host.argReduceFiber at hq
    obtain ⟨i, hi, rfl⟩ := List.mem_map.1 hq
    have hd := of_decide_eq_true (List.mem_filter.1 hi).2
    generalize Equiv.symm (Shape.rowMajor _) i = u at hd ⊢
    obtain ⟨r, k, rfl⟩ : ∃ (r : Fin N) (k : Fin M), u = ix2 r k := ⟨u 0, u 1, eq_ix2 u⟩
    rw [drop_row] at hd
    obtain rfl : r = n := congrFun hd 0
    by_cases e : k = j
    · subst e; exact .inl rfl
    · exact .inr (hj k e)
  · unfold Host.argReduceFiber
    refine List.mem_map.2 ⟨Shape.rowMajor _ (ix2 n j), List.mem_filter.2 ⟨List.mem_finRange _, ?_⟩, ?_⟩
    · rw [Equiv.symm_apply_apply, drop_row]
      exact decide_eq_true rfl
    · rw [Equiv.symm_apply_apply]

/-- The same of any vector equal to the arg-max's index half. -/
theorem argmax_vector {N M : ℕ} {u : Shape} (x : FVec Ideal ⟨2, ![N, M]⟩ .f32) (y : IVec ⟨2, ![N, M]⟩ 32) (ix : FVec Ideal u .f32)
    (iy : IVec u 32) (h : (⟨2, ![N, M]⟩ : Shape).ReducesTo [1] ⟨1, ![N]⟩) (hu : 0 < u.numel) (v : IVec ⟨1, ![N]⟩ 32)
    (hv : v = fun j => (Host.argReduce (reducer_argmax_f32_i32 (F := Ideal)) x y ix iy h hu j).2) (n : Fin N) (j : Fin M)
    (hj : ∀ k, k ≠ j → x (ix2 n k) < x (ix2 n j)) (hi : ix (Shape.Idx.first hu) < x (ix2 n j)) : v (ix1 n) = y (ix2 n j) := by
  rw [hv]
  exact argmax_row x y ix iy h hu n j hj hi

/-- Minus infinity is below an entry that is above another. -/
theorem bot_lt_peak (x : FVec Ideal S4000000x10 .f32) (n : Fin 4000000) (j : Fin 10) (h : ∀ k, k ≠ j → x (ix2 n k) < x (ix2 n j)) :
    (constant (F := Ideal) S_ .f32 0xFF800000#32) (Shape.Idx.first h_S_) < x (ix2 n j) := by
  obtain ⟨k, hk⟩ : ∃ k : Fin 10, k ≠ j := exists_ne j
  exact lt_of_le_of_lt (ofBits_bot.trans_le bot_le) (h k hk)

/-- The prediction of a row with one largest entry, read at its category. -/
theorem preds_iota (x : FVec Ideal S4000000x10 .f32) (n : Fin 4000000) (j : Fin 10) (h : ∀ k, k ≠ j → x (ix2 n k) < x (ix2 n j)) :
    preds x (ix1 n) = iotaInDim S4000000x10 32 1 (ix2 n j) :=
  argmax_vector x (iotaInDim S4000000x10 32 1) (constant (F := Ideal) S_ .f32 0xFF800000#32) (constantI S_ 32 0#32)
    reducesTo_S4000000x10_S4000000_d1 h_S_ (preds x) rfl n j h (bot_lt_peak x n j h)

/-- The prediction of a row with one largest entry is that entry's category. -/
theorem preds_apply (x : FVec Ideal S4000000x10 .f32) (n : Fin 4000000) (j : Fin 10) (h : ∀ k, k ≠ j → x (ix2 n k) < x (ix2 n j)) :
    preds x (ix1 n) = BitVec.ofNat 32 j.val := by
  rw [preds_iota x n j h]
  rfl

/-! ## The cell number -/

/-- The cell number of a sample. -/
theorem cell_apply (x : FVec Ideal S4000000x10 .f32) (t : IVec S4000000 32) (n : Fin 4000000) (i j : Fin 10)
    (ht : t (ix1 n) = BitVec.ofNat 32 i.val) (hp : preds x (ix1 n) = BitVec.ofNat 32 j.val) :
    cell x t (ix1 n) = BitVec.ofNat 32 (10 * i.val + j.val) := by
  show t (ix1 n) * 10#32 + preds x (ix1 n) = _
  rw [ht, hp]
  apply BitVec.eq_of_toNat_eq
  simp only [BitVec.toNat_add, BitVec.toNat_mul, BitVec.toNat_ofNat]
  omega

/-- A cell number in range stays as it is. -/
theorem wrapped_apply (k : IVec S4000000 32) (n : Fin 4000000) (v : ℕ) (hv : v < 100) (hk : k (ix1 n) = BitVec.ofNat 32 v) :
    wrapped (clipped k) (ix1 n) = BitVec.ofNat 32 v := by
  have key : ∀ v : Fin 100, Scalar.select (IntOp.cmpi .slt (IntOp.maxsi 0#32 (BitVec.ofNat 32 v.val)) 0#32)
      (IntOp.maxsi 0#32 (BitVec.ofNat 32 v.val) + 100#32) (IntOp.maxsi 0#32 (BitVec.ofNat 32 v.val)) = BitVec.ofNat 32 v.val := by decide
  rw [← key ⟨v, hv⟩, ← hk]
  rfl

/-! ## The scatter -/

/-- The scatter has no window: an update is one word. -/
theorem bins_window (n : Fin 4000000) : (scatter_S100_S4000000x1_S4000000_n_0_0_1).window (ix1 n) 0 = 0 := rfl

/-- An update goes where its index says. -/
theorem bins_start (idx : IVec S4000000x1 32) (n : Fin 4000000) :
    (scatter_S100_S4000000x1_S4000000_n_0_0_1).start (ix1 n) idx 0 = (idx (ix2 n (0 : Fin 1))).toInt := by
  refine congrArg (fun i => (idx i).toInt) (funext fun a => ?_)
  match a with
  | ⟨0, _⟩ => rfl
  | ⟨1, _⟩ => rfl

/-- A fold that adds one where a condition holds counts it. -/
theorem foldl_add_one {ι : Type} (p : ι → Prop) [DecidablePred p] (l : List ι) (z : ℕ) :
    l.foldl (fun a n => if p n then IntOp.addi a 1#32 else a) (BitVec.ofNat 32 z) = BitVec.ofNat 32 (z + l.countP fun n => decide (p n)) := by
  induction l generalizing z with
  | nil => rfl
  | cons n l ih =>
    rw [List.foldl_cons, List.countP_cons]
    by_cases h : p n
    · rw [if_pos h, show IntOp.addi (BitVec.ofNat 32 z) 1#32 = BitVec.ofNat 32 (z + 1) from (BitVec.ofNat_add z 1).symm, ih]
      simp only [h, decide_true, if_true]
      congr 1
      omega
    · rw [if_neg h, ih]
      simp only [h, decide_false, Bool.false_eq_true, if_false, Nat.add_zero]

/-- A scatter of ones into zeros counts the updates that land at an entry. -/
theorem scatter_ones {N K : ℕ} {si : Shape} (d : ScatterDims (Routing.shape1 K) si (Routing.shape1 N)) (x0 : IVec (Routing.shape1 K) 32)
    (h0 : ∀ i, x0 i = 0#32) (idx : IVec si 32) (upd : IVec (Routing.shape1 N) 32) (h1 : ∀ i, upd i = 1#32) (e : Fin K) (P : ℕ → Prop)
    [DecidablePred P] (hP : ∀ n : Fin N, d.start (ix1 n) idx 0 + (d.window (ix1 n) 0 : Int) = (e.val : Int) ↔ P n.val) :
    Host.scatter d IntOp.addi x0 idx upd (ix1 e) = BitVec.ofNat 32 (Nat.count P N) := by
  rw [Routing.scatter_at, h0]
  simp only [h1, Routing.symm1]
  refine (foldl_add_one _ _ 0).trans ?_
  rw [Nat.zero_add]
  refine congrArg (BitVec.ofNat 32) ?_
  refine Eq.trans ?_ (congrArg (Nat.count P) (Routing.numel1 N))
  rw [← Routing.countP_finRange]
  refine List.countP_congr fun n _ => ?_
  rw [decide_eq_true_iff, decide_eq_true_iff, Routing.resultIdx?_ix1, hP]
  exact Iff.rfl

open Classical in
/-- Entry `10·i + j` of the bins counts the samples of cell `(i, j)`. -/
theorem bins_apply (x : FVec Ideal S4000000x10 .f32) (t : IVec S4000000 32) (hx : Peaked x) (ht : Categories t) (i j : Fin 10)
    (e : Fin 100) (he : e.val = 10 * i.val + j.val) :
    bins (wrapped (clipped (cell x t))) (ix1 e) = BitVec.ofNat 32 (tally x t i j 4000000) := by
  unfold bins tally
  refine scatter_ones _ _ (fun _ => rfl) _ _ (fun _ => rfl) e _ fun n => ?_
  rw [bins_window, bins_start, Nat.cast_zero, add_zero]
  obtain ⟨i', hi⟩ := ht n
  obtain ⟨j', hj⟩ := hx n
  have hc := wrapped_apply (cell x t) n (10 * i'.val + j'.val) (by omega) (cell_apply x t n i' j' hi (preds_apply x n j' hj))
  have hb : (broadcastInDim S4000000x1 ![0] bcast_S4000000_S4000000x1_0 (wrapped (clipped (cell x t)))) (ix2 n (0 : Fin 1))
      = BitVec.ofNat 32 (10 * i'.val + j'.val) := (Routing.bcCol bcast_S4000000_S4000000x1_0 _ n).trans hc
  rw [hb, StableHlo.Predicate.toInt_ofNat_small _ (by omega), he]
  unfold hit
  rw [exists_prop_of_true n.isLt]
  constructor
  · intro h
    obtain ⟨rfl, rfl⟩ : i = i' ∧ j = j' := by constructor <;> apply Fin.ext <;> omega
    refine ⟨hi, fun k => ?_⟩
    by_cases c : k = j
    · rw [c]
    · exact (hj k c).le
  · rintro ⟨h1, h2⟩
    have e1 : i = i' := by
      have := congrArg BitVec.toNat (hi.symm.trans h1)
      rw [BitVec.toNat_ofNat, BitVec.toNat_ofNat] at this
      apply Fin.ext
      omega
    have e2 : j = j' := by
      by_contra c
      exact absurd (h2 j') (not_le.2 (hj j c))
    rw [e1, e2]

/-- The reference's table is the tally of all samples. -/
theorem counted_tally (x : FVec Ideal S4000000x10 .f32) (t : IVec S4000000 32) (hx : Peaked x) (ht : Categories t) (i j : Fin 10) :
    counted x t (ix2 i j) = (tally x t i j 4000000 : EReal) := by
  have he : 10 * i.val + j.val < 100 := by omega
  have hle : tally x t i j 4000000 ≤ 4000000 := tally_le x t i j _
  have e : shapeCast S10x10 (bins (wrapped (clipped (cell x t)))) shapeCasts_S100_S10x10 (ix2 i j)
      = BitVec.ofNat 32 (tally x t i j 4000000) := by
    refine (shapeCast_apply _ _ _ (ix1 ⟨10 * i.val + j.val, he⟩) ?_).trans (bins_apply x t hx ht i j _ rfl)
    rw [Shape.rowMajor_val_one, Shape.rowMajor_val_two]
    show 10 * i.val + j.val = i.val * 10 + j.val
    omega
  show (((shapeCast S10x10 (bins (wrapped (clipped (cell x t)))) shapeCasts_S100_S10x10 (ix2 i j)).toInt : ℝ) : EReal) = _
  rw [e, StableHlo.Predicate.toInt_ofNat_small _ (by omega)]
  rw [Int.cast_natCast]
  exact EReal.coe_natCast

end Cert.ReferenceIdeal.Hist
-- ==== Proof.Formula.lean ====
module

public import proofs.«01_k».proof.Proof.Gen.KernelIdeal.Skeleton
public import proofs.«01_k».proof.Proof.RefRun
public import Idealize.ShloMosaic.Lib.KernelVsHost
public import Idealize.ShloMosaic.Lib.IdealHost
public import Idealize.ShloMosaic.Lib.Routing.Ops

/-! The kernel's score of a table of counts is the reference's loss of the table's shares, over the extended reals. -/

@[expose] public section

set_option maxRecDepth 16384

noncomputable section

namespace Cert.Hist

open Idealize.ShloMosaic Idealize.ShloMosaic.ValueIdx Idealize.ShloMosaic.Pipeline
open Cert.KernelIdeal Cert.KernelIdeal.Gen
open Cert.ReferenceIdeal.Hist (shares expected gap weights total chance loss)

/-- The kernel's shares. -/
theorem kernel_shares (v : FVec Ideal S10x10 .f32) :
    divf v (broadcast S10x10 (Scalar.ofBits .f32 0x4A742400#32)) = shares (F := Ideal) v := rfl

/-- A row's sum, either way. -/
theorem row_sum (p : FVec Ideal S10x10 .f32) :
    multiReduction .add [1] S10 p 0x00000000#32 reduces_S10x10_S10 (.inl rfl) rfl
      = Host.reduceAdd p (constant S_ .f32 0x00000000#32) Cert.ReferenceIdeal.Gen.reducesTo_S10x10_S10_d1 Cert.ReferenceIdeal.Gen.h_S_ :=
  multiReduction_add_eq_hostReduceAdd p _ _ _ _ _ _ _ Ideal.ofBits_zero_f32

/-- A column's sum, either way. -/
theorem col_sum (p : FVec Ideal S10x10 .f32) :
    multiReduction .add [0] S10 p 0x00000000#32 reduces_S10x10_S10_2 (.inl rfl) rfl
      = Host.reduceAdd p (constant S_ .f32 0x00000000#32) Cert.ReferenceIdeal.Gen.reducesTo_S10x10_S10_d0 Cert.ReferenceIdeal.Gen.h_S_ :=
  multiReduction_add_eq_hostReduceAdd p _ _ _ _ _ _ _ Ideal.ofBits_zero_f32

/-- A vector repeated along rows by the kernel's operations. -/
theorem along_rows {α : Type} (x : S10.Idx → α) (i j : Fin 10) :
    broadcastTo S10x10 (shapeCast S10x1 x shapeCasts_S10_S10x1) broadcasts_S10x1_S10x10 (ix2 i j) = x (ix1 i) := by
  rw [broadcastTo_apply _ _ _ (ix2 i (0 : Fin 1)) (by intro a; fin_cases a <;> rfl)]
  refine shapeCast_apply _ _ _ _ ?_
  rw [Shape.rowMajor_val_one, Shape.rowMajor_val_two]
  show i.val = i.val * 1 + 0
  omega

/-- A vector repeated along columns by the kernel's operations. -/
theorem along_cols {α : Type} (x : S10.Idx → α) (i j : Fin 10) :
    broadcastTo S10x10 (shapeCast S1x10 x shapeCasts_S10_S1x10) broadcasts_S1x10_S10x10 (ix2 i j) = x (ix1 j) := by
  rw [broadcastTo_apply _ _ _ (ix2 (0 : Fin 1) j) (by intro a; fin_cases a <;> rfl)]
  refine shapeCast_apply _ _ _ _ ?_
  rw [Shape.rowMajor_val_one, Shape.rowMajor_val_two]
  show j.val = 0 * 10 + j.val
  omega

/-- The kernel's product of marginals. -/
theorem kernel_expected (p : FVec Ideal S10x10 .f32) :
    mulf (broadcastTo S10x10 (shapeCast S10x1 (multiReduction .add [1] S10 p 0x00000000#32 reduces_S10x10_S10 (.inl rfl) rfl)
        shapeCasts_S10_S10x1) broadcasts_S10x1_S10x10)
      (broadcastTo S10x10 (shapeCast S1x10 (multiReduction .add [0] S10 p 0x00000000#32 reduces_S10x10_S10_2 (.inl rfl) rfl)
        shapeCasts_S10_S1x10) broadcasts_S1x10_S10x10) = expected (F := Ideal) p := by
  funext k
  obtain ⟨i, j, rfl⟩ : ∃ (i j : Fin 10), k = ix2 i j := ⟨k 0, k 1, eq_ix2 k⟩
  unfold expected
  rw [mulf_apply, mulf_apply, along_rows, along_cols, row_sum, col_sum]
  exact congrArg₂ (· * ·) (Routing.bcRows _ _ _ i j).symm (Routing.bcCols _ _ _ i j).symm

/-- The kernel's difference of categories. -/
theorem kernel_gap :
    subf (sitofp .f32 (iota .tc S10x10 32 [0] iota_S10x10_d0_w32)) (sitofp .f32 (iota .tc S10x10 32 [1] iota_S10x10_d1_w32))
      = gap (F := Ideal) := by
  funext k
  obtain ⟨i, j, rfl⟩ : ∃ (i j : Fin 10), k = ix2 i j := ⟨k 0, k 1, eq_ix2 k⟩
  unfold gap
  rw [subf_apply, subf_apply, sitofp_apply, sitofp_apply, iota_single_apply, iota_single_apply]
  have r := Routing.bcRows Cert.ReferenceIdeal.Gen.bcast_S10_S10x1_0 Cert.ReferenceIdeal.Gen.bcast_S10x1_S10x10_0_1
    (sitofp (F := Ideal) .f32 (iotaInDim S10 32 0)) i j
  have c := Routing.bcCols Cert.ReferenceIdeal.Gen.bcast_S10_S1x10_1 Cert.ReferenceIdeal.Gen.bcast_S1x10_S10x10_0_1
    (sitofp (F := Ideal) .f32 (iotaInDim S10 32 0)) i j
  exact (congrArg₂ (fun a b : EReal => a - b) r c).symm

/-- The kernel's weights. -/
theorem kernel_weights :
    subf (broadcast S10x10 (Scalar.ofBits .f32 0x3F800000#32)) (divf (mulf (gap (F := Ideal)) gap) (broadcast S10x10 (Scalar.ofBits .f32 0x42A20000#32)))
      = weights (F := Ideal) := rfl

/-- The kernel's total of a table. -/
theorem kernel_total (q : FVec Ideal S10x10 .f32) :
    extractAt ![0, 0, 0] (shapeCast S1x1x1 (multiReduction .add [1, 2] S1 (shapeCast S1x10x10 q shapeCasts_S10x10_S1x10x10)
      0x00000000#32 reduces_S1x10x10_S1 (.inl rfl) rfl) shapeCasts_S1_S1x1x1) inpos_S1x1x1_p0_0_0
      = Host.reduceAdd q (constant S_ .f32 0x00000000#32) Cert.ReferenceIdeal.Gen.reducesTo_S10x10_S_d0_1 Cert.ReferenceIdeal.Gen.h_S_ ix0 := by
  rw [hostReduceAdd_apply, Ideal.hostReduceAdd_total _ (fun b => b.elim0)]
  rw [show (constant S_ .f32 0x00000000#32 : FVec Ideal S_ .f32) (Shape.Idx.first Cert.ReferenceIdeal.Gen.h_S_) = 0 from Ideal.ofBits_zero_f32,
    zero_add]
  unfold extractAt
  rw [shapeCast_apply _ _ _ (ix1 (0 : Fin 1)) (by rw [Shape.rowMajor_val_one, Shape.rowMajor_val_three]; rfl)]
  refine (Ideal.multiReduction_add_total _ _ _ (by decide) _ _ _).trans ?_
  exact Fintype.sum_equiv (Shape.reshapeEquiv shapeCasts_S10x10_S1x10x10) _ _ fun _ => rfl

/-- The kernel's score is the loss of the shares. -/
theorem score_eq_loss (v : FVec Ideal S10x10 .f32) :
    shapeCast S_ (k1_pay1 (F := Ideal) v) shapeCasts_S1x1_S_ = loss (F := Ideal) (shares v) := by
  funext k
  obtain rfl : k = ix0 := eq_ix0 k
  rw [shapeCast_apply _ _ _ (ix2 (0 : Fin 1) (0 : Fin 1)) (by rw [Shape.rowMajor_val_two]; rfl)]
  unfold k1_pay1
  simp only [shapeCast_self]
  rw [kernel_shares, kernel_expected, kernel_gap, kernel_weights, kernel_total, kernel_total]
  rfl

end Cert.Hist
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_untied
public import proofs.«01_k».proof.Proof.Run
public import proofs.«01_k».proof.Proof.RefRun
public import proofs.«01_k».proof.Proof.KernelTally
public import proofs.«01_k».proof.Proof.RefTally
public import proofs.«01_k».proof.Proof.Formula
public import Idealize.ShloMosaic.Adequacy
public import Idealize.ShloMosaic.Init

@[expose] public section

noncomputable section

namespace Cert.Proof

open Idealize.ShloMosaic Idealize.SL.Sem Cert.Kernel

/-- The two printings of the kernel have the same table of bodies: they agree at each of the two labels. -/
theorem bodies_eq : Cert.Kernel.defs₀ (F := Bits) = Cert.KernelIdeal.defs₀ (F := Bits) := by
  funext p l a
  cases p
  · match l, a with
    | ⟨0, _⟩, _ => rfl
    | ⟨1, _⟩, _ => rfl
  · rfl
  · rfl

/-- So they have the same table of definitions. -/
theorem defs_eq : Cert.Kernel.defs (F := Bits) = Cert.KernelIdeal.defs (F := Bits) :=
  congrArg (Pipeline.defs (Cert.KernelIdeal.pcfgs (F := Bits))) bodies_eq

/-- The kernel's run at the machine's floats. -/
theorem frame_kernel : Cert.quiescent_Kernel := fun m ρ _ =>
  have run : θ_run (Cert.KernelIdeal.defs (F := Bits)) (onTc (τ := Cert.KernelIdeal.τ) (Cert.KernelIdeal.main (F := Bits)))
      ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0) :=
    (θ_run Cert.KernelIdeal.defs _ _).mono (fun _ h => ⟨fun c => (h.1 c).2, h.2⟩) (Cert.KernelIdeal.Hist.run_main (F := Bits) m ρ)
  defs_eq.symm ▸ run

/-- The kernel's run over the extended reals. -/
theorem frame_ideal : Cert.quiescent_KernelIdeal := fun m ρ _ =>
  (θ_run Cert.KernelIdeal.defs _ _).mono (fun _ h => ⟨fun c => (h.1 c).2, h.2⟩) (Cert.KernelIdeal.Hist.run_main (F := Ideal) m ρ)

/-- The same under the precondition. -/
theorem frame_ideal_untied : Cert.quiescent_KernelIdeal_pre_untied := fun m ρ _ =>
  (θ_run Cert.KernelIdeal.defs _ _).mono (fun _ h => ⟨fun c => (h.1 c).2, h.2⟩) (Cert.KernelIdeal.Hist.run_main (F := Ideal) m ρ)

/-- The reference's run over the extended reals. -/
theorem frame_reference : Cert.quiescent_ReferenceIdeal := fun m ρ _ =>
  (θ_run Cert.ReferenceIdeal.defs _ _).mono (fun _ h => ⟨fun c => (h.1 c).2, h.2⟩) (Cert.ReferenceIdeal.Hist.run_main (F := Ideal) m ρ)

/-- The same under the precondition. -/
theorem frame_reference_untied : Cert.quiescent_ReferenceIdeal_pre_untied := fun m ρ _ =>
  (θ_run Cert.ReferenceIdeal.defs _ _).mono (fun _ h => ⟨fun c => (h.1 c).2, h.2⟩) (Cert.ReferenceIdeal.Hist.run_main (F := Ideal) m ρ)

/-- The two tables of counts are equal. -/
theorem tables_eq (m : (ℓ : Loc Cert.KernelIdeal.nD Cert.KernelIdeal.τ Cert.KernelIdeal.sig) → Buf (Elt Ideal) ℓ)
    (h : Cert.Pre_KernelIdeal_untied m) (c : Dev Cert.KernelIdeal.nD) :
    Cert.KernelIdeal.Hist.table m c
      = Cert.ReferenceIdeal.Hist.counted (Cert.KernelIdeal.Hist.logits m c) (Cert.KernelIdeal.Hist.targets m c) := by
  obtain ⟨hx, ht⟩ := Cert.Hist.facts_of_pre _ _ (h c)
  funext k
  obtain ⟨i, j, rfl⟩ : ∃ (i j : Fin 10), k = ValueIdx.ix2 i j := ⟨k 0, k 1, ValueIdx.eq_ix2 k⟩
  rw [Cert.KernelIdeal.Hist.table_tally, Cert.ReferenceIdeal.Hist.counted_tally _ _ hx ht]

/-- The kernel's loss is the reference's. -/
theorem results_equal : Cert.algebraic_KernelIdeal_ReferenceIdeal_pre_untied := by
  intro m ρ m' ρ' hpre hargs
  refine ⟨fun c => Cert.ReferenceIdeal.Hist.loss (F := Ideal) (Cert.ReferenceIdeal.Hist.shares
    (Cert.ReferenceIdeal.Hist.counted (Cert.KernelIdeal.Hist.logits m c) (Cert.KernelIdeal.Hist.targets m c))), ?_, ?_⟩
  · refine (θ_run Cert.KernelIdeal.defs _ _).mono (fun _ h c => ⟨?_, (h.1 c).2⟩) (Cert.KernelIdeal.Hist.run_main (F := Ideal) m ρ)
    rw [(h.1 c).1, Cert.Hist.score_eq_loss, tables_eq m hpre c]
  · refine (θ_run Cert.ReferenceIdeal.defs _ _).mono (fun _ h c => ⟨?_, (h.1 c).2⟩) (Cert.ReferenceIdeal.Hist.run_main (F := Ideal) m' ρ')
    rw [(h.1 c).1, (hargs c).1, (hargs c).2]

/-- All the claims together. -/
theorem claim : Cert.Claim := ⟨Cert.Kernel.Gen.facts, Cert.KernelIdeal.Gen.facts, Cert.ReferenceIdeal.Gen.facts, Cert.Pre_untied.Gen.facts,
  frame_kernel, frame_ideal, frame_ideal_untied, frame_reference, frame_reference_untied, trivial, results_equal⟩

end Cert.Proof

end
